-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  IdealRules.named_const.Statement Cert.KernelIdeal.κ "inv_t" .f32 0x3C23D70A#32 ((100⁻¹ : ℝ) : EReal)

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S39x2x100 : Shape := ⟨3, ![39, 2, 100]⟩
abbrev S2x286 : Shape := ⟨2, ![2, 286]⟩
abbrev S8x64 : Shape := ⟨2, ![8, 64]⟩
abbrev S64 : Shape := ⟨1, ![64]⟩
abbrev S128x2496 : Shape := ⟨2, ![128, 2496]⟩
abbrev S128 : Shape := ⟨1, ![128]⟩
abbrev S256x128 : Shape := ⟨2, ![256, 128]⟩
abbrev S256 : Shape := ⟨1, ![256]⟩
abbrev S36x256 : Shape := ⟨2, ![36, 256]⟩
abbrev S36 : Shape := ⟨1, ![36]⟩
abbrev S_ : Shape := ⟨0, ![]⟩

class Facts : Prop where
  bcast_S_S2x286 : S_.BroadcastsInDim S2x286 (![] : Fin 0 → Fin S2x286.rank)
  reducesTo_S2x286_S_d0_1 : S2x286.ReducesTo [0, 1] S_
  h_S_ : 0 < S_.numel

variable [Facts]

def fn {F : FTy → Type} [FloatOps F] (main_arg0 : FVec F S39x2x100 .f32) (main_arg1 : IVec S2x286 32) (main_arg2 : FVec F S8x64 .f32) (main_arg3 : FVec F S64 .f32) (main_arg4 : FVec F S128x2496 .f32) (main_arg5 : FVec F S128 .f32) (main_arg6 : FVec F S256x128 .f32) (main_arg7 : FVec F S256 .f32) (main_arg8 : FVec F S36x256 .f32) (main_arg9 : FVec F S36 .f32) : IVec S_ 1 :=
  let main_c : IVec S_ 32 := constantI S_ 32 0#32
  let main_v0 : IVec S2x286 32 := broadcastInDim S2x286 ![] bcast_S_S2x286 main_c
  let main_v1 : IVec S2x286 1 := cmpi .sge main_arg1 main_v0
  let main_c_0 : IVec S_ 32 := constantI S_ 32 39#32
  let main_v2 : IVec S2x286 32 := broadcastInDim S2x286 ![] bcast_S_S2x286 main_c_0
  let main_v3 : IVec S2x286 1 := cmpi .slt main_arg1 main_v2
  let main_v4 : IVec S2x286 1 := andi main_v1 main_v3
  let main_c_1 : IVec S_ 1 := constantI S_ 1 1#1
  let main_v5 : IVec S_ 1 := (fun x v => Host.reduce IntOp.andi x v reducesTo_S2x286_S_d0_1 h_S_) main_v4 main_c_1
  main_v5
-- ==== Kernel.lean ====
abbrev S39x2x100 : Shape := ⟨3, ![39, 2, 100]⟩
abbrev S2x286 : Shape := ⟨2, ![2, 286]⟩
abbrev S8x64 : Shape := ⟨2, ![8, 64]⟩
abbrev S64 : Shape := ⟨1, ![64]⟩
abbrev S128x2496 : Shape := ⟨2, ![128, 2496]⟩
abbrev S128 : Shape := ⟨1, ![128]⟩
abbrev S256x128 : Shape := ⟨2, ![256, 128]⟩
abbrev S256 : Shape := ⟨1, ![256]⟩
abbrev S36x256 : Shape := ⟨2, ![36, 256]⟩
abbrev S36 : Shape := ⟨1, ![36]⟩
abbrev S100x39x2 : Shape := ⟨3, ![100, 39, 2]⟩
abbrev S100x78 : Shape := ⟨2, ![100, 78]⟩
abbrev S1x286 : Shape := ⟨2, ![1, 286]⟩
abbrev S286 : Shape := ⟨1, ![286]⟩
abbrev S286x1 : Shape := ⟨2, ![286, 1]⟩
abbrev S1x64 : Shape := ⟨2, ![1, 64]⟩
abbrev S1x128 : Shape := ⟨2, ![1, 128]⟩
abbrev S1x256 : Shape := ⟨2, ![1, 256]⟩
abbrev S_ : Shape := ⟨0, ![]⟩
abbrev S128x256 : Shape := ⟨2, ![128, 256]⟩
abbrev S1 : Shape := ⟨1, ![1]⟩
abbrev S2 : Shape := ⟨1, ![2]⟩
abbrev S100x2496 : Shape := ⟨2, ![100, 2496]⟩
abbrev S100x128 : Shape := ⟨2, ![100, 128]⟩
abbrev S100x256 : Shape := ⟨2, ![100, 256]⟩
abbrev S39x286 : Shape := ⟨2, ![39, 286]⟩
abbrev S286x39 : Shape := ⟨2, ![286, 39]⟩
abbrev S39 : Shape := ⟨1, ![39]⟩
abbrev S39x1 : Shape := ⟨2, ![39, 1]⟩
abbrev S39x39 : Shape := ⟨2, ![39, 39]⟩
abbrev S78x39 : Shape := ⟨2, ![78, 39]⟩
abbrev S39x78 : Shape := ⟨2, ![39, 78]⟩
abbrev S78x78 : Shape := ⟨2, ![78, 78]⟩
abbrev S100x312 : Shape := ⟨2, ![100, 312]⟩
abbrev S312x8 : Shape := ⟨2, ![312, 8]⟩
abbrev S312x64 : Shape := ⟨2, ![312, 64]⟩
abbrev S312x2496 : Shape := ⟨2, ![312, 2496]⟩
abbrev S1x2496 : Shape := ⟨2, ![1, 2496]⟩
abbrev S1x36 : Shape := ⟨2, ![1, 36]⟩

abbrev nBuf : Space → Nat
  | .hbm => 40
  | .vmem => 20
  | .smem => 0
  | _ => 0

abbrev bufTy : (tb : Table) → Fin (tcTables nBuf tb) → BufTy
  | .hbm, ⟨0, _⟩ => ⟨S39x2x100, .f32⟩
  | .hbm, ⟨1, _⟩ => ⟨S2x286, .i32⟩
  | .hbm, ⟨2, _⟩ => ⟨S8x64, .f32⟩
  | .hbm, ⟨3, _⟩ => ⟨S64, .f32⟩
  | .hbm, ⟨4, _⟩ => ⟨S128x2496, .f32⟩
  | .hbm, ⟨5, _⟩ => ⟨S128, .f32⟩
  | .hbm, ⟨6, _⟩ => ⟨S256x128, .f32⟩
  | .hbm, ⟨7, _⟩ => ⟨S256, .f32⟩
  | .hbm, ⟨8, _⟩ => ⟨S36x256, .f32⟩
  | .hbm, ⟨9, _⟩ => ⟨S36, .f32⟩
  | .hbm, ⟨10, _⟩ => ⟨S100x39x2, .f32⟩
  | .hbm, ⟨11, _⟩ => ⟨S100x78, .f32⟩
  | .hbm, ⟨12, _⟩ => ⟨S1x286, .i32⟩
  | .hbm, ⟨13, _⟩ => ⟨S286, .i32⟩
  | .hbm, ⟨14, _⟩ => ⟨S1x286, .i32⟩
  | .hbm, ⟨15, _⟩ => ⟨S1x286, .i32⟩
  | .hbm, ⟨16, _⟩ => ⟨S286, .i32⟩
  | .hbm, ⟨17, _⟩ => ⟨S1x286, .i32⟩
  | .hbm, ⟨18, _⟩ => ⟨S1x286, .i32⟩
  | .hbm, ⟨19, _⟩ => ⟨S286, .i32⟩
  | .hbm, ⟨20, _⟩ => ⟨S286x1, .i32⟩
  | .hbm, ⟨21, _⟩ => ⟨S1x64, .f32⟩
  | .hbm, ⟨22, _⟩ => ⟨S1x128, .f32⟩
  | .hbm, ⟨23, _⟩ => ⟨S1x256, .f32⟩
  | .hbm, ⟨24, _⟩ => ⟨S_, .f32⟩
  | .hbm, ⟨25, _⟩ => ⟨S128x256, .f32⟩
  | .hbm, ⟨26, _⟩ => ⟨S_, .i32⟩
  | .hbm, ⟨27, _⟩ => ⟨S1, .i32⟩
  | .hbm, ⟨28, _⟩ => ⟨S128x256, .f32⟩
  | .hbm, ⟨29, _⟩ => ⟨S_, .f32⟩
  | .hbm, ⟨30, _⟩ => ⟨S1x128, .f32⟩
  | .hbm, ⟨31, _⟩ => ⟨S_, .i32⟩
  | .hbm, ⟨32, _⟩ => ⟨S1, .i32⟩
  | .hbm, ⟨33, _⟩ => ⟨S_, .i32⟩
  | .hbm, ⟨34, _⟩ => ⟨S1, .i32⟩
  | .hbm, ⟨35, _⟩ => ⟨S2, .i32⟩
  | .hbm, ⟨36, _⟩ => ⟨S1x128, .f32⟩
  | .hbm, ⟨37, _⟩ => ⟨S1x128, .f32⟩
  | .hbm, ⟨38, _⟩ => ⟨S1x36, .f32⟩
  | .hbm, ⟨39, _⟩ => ⟨S36, .f32⟩
  | .local _ .vmem, ⟨0, _⟩ => ⟨S100x78, .f32⟩
  | .local _ .vmem, ⟨1, _⟩ => ⟨S1x286, .i32⟩
  | .local _ .vmem, ⟨2, _⟩ => ⟨S1x286, .i32⟩
  | .local _ .vmem, ⟨3, _⟩ => ⟨S286x1, .i32⟩
  | .local _ .vmem, ⟨4, _⟩ => ⟨S8x64, .f32⟩
  | .local _ .vmem, ⟨5, _⟩ => ⟨S1x64, .f32⟩
  | .local _ .vmem, ⟨6, _⟩ => ⟨S128x2496, .f32⟩
  | .local _ .vmem, ⟨7, _⟩ => ⟨S1x128, .f32⟩
  | .local _ .vmem, ⟨8, _⟩ => ⟨S256x128, .f32⟩
  | .local _ .vmem, ⟨9, _⟩ => ⟨S1x256, .f32⟩
  | .local _ .vmem, ⟨10, _⟩ => ⟨S128x256, .f32⟩
  | .local _ .vmem, ⟨11, _⟩ => ⟨S1x128, .f32⟩
  | .local _ .vmem, ⟨12, _⟩ => ⟨S1x128, .f32⟩
  | .local _ .vmem, ⟨13, _⟩ => ⟨S100x2496, .f32⟩
  | .local _ .vmem, ⟨14, _⟩ => ⟨S100x2496, .f32⟩
  | .local _ .vmem, ⟨15, _⟩ => ⟨S100x128, .f32⟩
  | .local _ .vmem, ⟨16, _⟩ => ⟨S100x128, .f32⟩
  | .local _ .vmem, ⟨17, _⟩ => ⟨S100x256, .f32⟩
  | .local _ .vmem, ⟨18, _⟩ => ⟨S100x256, .f32⟩
  | .local _ .vmem, ⟨19, _⟩ => ⟨S100x128, .f32⟩
  | _, _ => ⟨S39x2x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_c : Ref sig .tc := ⟨.hbm, 26, rfl⟩
abbrev main_v15 : Ref sig .tc := ⟨.hbm, 27, rfl⟩
abbrev main_v16 : Ref sig .tc := ⟨.hbm, 28, rfl⟩
abbrev main_cst_0 : Ref sig .tc := ⟨.hbm, 29, rfl⟩
abbrev main_v17 : Ref sig .tc := ⟨.hbm, 30, rfl⟩
abbrev main_c_1 : Ref sig .tc := ⟨.hbm, 31, rfl⟩
abbrev main_v18 : Ref sig .tc := ⟨.hbm, 32, rfl⟩
abbrev main_c_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_scratch4 : Ref sig .tc := ⟨.vmem, 17, rfl⟩
abbrev cc0_scratch5 : Ref sig .tc := ⟨.vmem, 18, rfl⟩
abbrev cc0_scratch6 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

@[reducible] def k0_t1_loop : Scf.Loop 32 :=
  let c0_i32_82 : BitVec 32 := 0#32
  let c10_i32 : BitVec 32 := 10#32
  let v277 : BitVec 32 := Scalar.addi c0_i32_82 c10_i32
  let c1_i32_83 : BitVec 32 := 1#32
  ⟨c0_i32_82, v277, c1_i32_83⟩
def k0_off1 (k0_t1 : Fin k0_t1_loop.trips) (c0_i32_135 : BitVec 32) : Fin 2 → Nat :=
  let c0_i32_82 : BitVec 32 := 0#32
  let c1_i32_83 : BitVec 32 := 1#32
  let arg20 : BitVec 32 := Scf.iv c0_i32_82 c1_i32_83 k0_t1
  let c10_i32_134 : BitVec 32 := 10#32
  let v326 : BitVec 32 := Scalar.muli arg20 c10_i32_134
  let v327 : BitVec 32 := Scalar.addi v326 c0_i32_135
  let v333 : Index := Scalar.indexCast v327
  let c0_138 : Index := 0#32
  ![v333.toNat, 0]
@[reducible] def k0_t2_loop : Scf.Loop 32 :=
  let c0_i32_96 : BitVec 32 := 0#32
  let c10_i32_97 : BitVec 32 := 10#32
  let v291 : BitVec 32 := Scalar.addi c0_i32_96 c10_i32_97
  let c1_i32_98 : BitVec 32 := 1#32
  ⟨c0_i32_96, v291, c1_i32_98⟩
def k0_off2 (k0_t2 : Fin k0_t2_loop.trips) (c0_i32_135 : BitVec 32) : Fin 2 → Nat :=
  let c0_i32_96 : BitVec 32 := 0#32
  let c1_i32_98 : BitVec 32 := 1#32
  let arg20 : BitVec 32 := Scf.iv c0_i32_96 c1_i32_98 k0_t2
  let c10_i32_134 : BitVec 32 := 10#32
  let v326 : BitVec 32 := Scalar.muli arg20 c10_i32_134
  let v327 : BitVec 32 := Scalar.addi v326 c0_i32_135
  let v333 : Index := Scalar.indexCast v327
  let c0_138 : Index := 0#32
  ![v333.toNat, 0]
@[reducible] def k0_t3_loop : Scf.Loop 32 :=
  let c0_i32_111 : BitVec 32 := 0#32
  let c10_i32_112 : BitVec 32 := 10#32
  let v305 : BitVec 32 := Scalar.addi c0_i32_111 c10_i32_112
  let c1_i32_113 : BitVec 32 := 1#32
  ⟨c0_i32_111, v305, c1_i32_113⟩
def k0_off3 (k0_t3 : Fin k0_t3_loop.trips) (c0_i32_135 : BitVec 32) : Fin 2 → Nat :=
  let c0_i32_111 : BitVec 32 := 0#32
  let c1_i32_113 : BitVec 32 := 1#32
  let arg20 : BitVec 32 := Scf.iv c0_i32_111 c1_i32_113 k0_t3
  let c10_i32_134 : BitVec 32 := 10#32
  let v326 : BitVec 32 := Scalar.muli arg20 c10_i32_134
  let v327 : BitVec 32 := Scalar.addi v326 c0_i32_135
  let v333 : Index := Scalar.indexCast v327
  let c0_138 : Index := 0#32
  ![v333.toNat, 0]
@[reducible] def k0_t4_loop : Scf.Loop 32 :=
  let c0_i32_127 : BitVec 32 := 0#32
  let c10_i32_128 : BitVec 32 := 10#32
  let v321 : BitVec 32 := Scalar.addi c0_i32_127 c10_i32_128
  let c1_i32_129 : BitVec 32 := 1#32
  ⟨c0_i32_127, v321, c1_i32_129⟩
def k0_off4 (k0_t4 : Fin k0_t4_loop.trips) (c0_i32_135 : BitVec 32) : Fin 2 → Nat :=
  let c0_i32_127 : BitVec 32 := 0#32
  let c1_i32_129 : BitVec 32 := 1#32
  let arg20 : BitVec 32 := Scf.iv c0_i32_127 c1_i32_129 k0_t4
  let c10_i32_134 : BitVec 32 := 10#32
  let v326 : BitVec 32 := Scalar.muli arg20 c10_i32_134
  let v327 : BitVec 32 := Scalar.addi v326 c0_i32_135
  let v333 : Index := Scalar.indexCast v327
  let c0_138 : Index := 0#32
  ![v333.toNat, 0]
abbrev stage0_0 : Fin 1 → Memref sig .tc .vmem S100x78 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x286 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x286 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S286x1 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S128x2496 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S256x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S128x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== KernelIdeal.lean ====
variable {F : FTy → Type} [FloatOps F] [Named F]
def κ : String → Option EReal := fun
  | "inv_t" => some ((100⁻¹ : ℝ) : EReal)
  | _ => none
-- ==== ReferenceIdeal.lean ====
abbrev S39x2x100 : Shape := ⟨3, ![39, 2, 100]⟩
abbrev S2x286 : Shape := ⟨2, ![2, 286]⟩
abbrev S8x64 : Shape := ⟨2, ![8, 64]⟩
abbrev S64 : Shape := ⟨1, ![64]⟩
abbrev S128x2496 : Shape := ⟨2, ![128, 2496]⟩
abbrev S128 : Shape := ⟨1, ![128]⟩
abbrev S256x128 : Shape := ⟨2, ![256, 128]⟩
abbrev S256 : Shape := ⟨1, ![256]⟩
abbrev S36x256 : Shape := ⟨2, ![36, 256]⟩
abbrev S36 : Shape := ⟨1, ![36]⟩
abbrev S_ : Shape := ⟨0, ![]⟩
abbrev S39x64 : Shape := ⟨2, ![39, 64]⟩
abbrev S39x2x1 : Shape := ⟨3, ![39, 2, 1]⟩
abbrev S39x2 : Shape := ⟨2, ![39, 2]⟩
abbrev S1x286 : Shape := ⟨2, ![1, 286]⟩
abbrev S286 : Shape := ⟨1, ![286]⟩
abbrev S39 : Shape := ⟨1, ![39]⟩
abbrev S286x1 : Shape := ⟨2, ![286, 1]⟩
abbrev S286x2 : Shape := ⟨2, ![286, 2]⟩
abbrev S39x8 : Shape := ⟨2, ![39, 8]⟩
abbrev S1x64 : Shape := ⟨2, ![1, 64]⟩
abbrev S2496 : Shape := ⟨1, ![2496]⟩
abbrev S2496x128 : Shape := ⟨2, ![2496, 128]⟩
abbrev S128x256 : Shape := ⟨2, ![128, 256]⟩
abbrev S256x36 : Shape := ⟨2, ![256, 36]⟩

abbrev nBuf : Space → Nat
  | .hbm => 250
  | .vmem => 0
  | .smem => 0
  | _ => 0

abbrev hbmTy0_0 (i : Nat) : BufTy := match i % 128 with
  | 0 => ⟨S39x2x100, .f32⟩
  | 1 => ⟨S2x286, .i32⟩
  | 2 => ⟨S8x64, .f32⟩
  | 3 => ⟨S64, .f32⟩
  | 4 => ⟨S128x2496, .f32⟩
  | 5 => ⟨S128, .f32⟩
  | 6 => ⟨S256x128, .f32⟩
  | 7 => ⟨S256, .f32⟩
  | 8 => ⟨S36x256, .f32⟩
  | 9 => ⟨S36, .f32⟩
  | 10 => ⟨S_, .f32⟩
  | 11 => ⟨S39x64, .f32⟩
  | 12 => ⟨S_, .f32⟩
  | 13 => ⟨S39x64, .f32⟩
  | 14 => ⟨S_, .f32⟩
  | 15 => ⟨S128, .f32⟩
  | 16 => ⟨S_, .f32⟩
  | 17 => ⟨S128, .f32⟩
  | 18 => ⟨S_, .f32⟩
  | 19 => ⟨S256, .f32⟩
  | 20 => ⟨S_, .f32⟩
  | 21 => ⟨S256, .f32⟩
  | 22 => ⟨S_, .f32⟩
  | 23 => ⟨S36, .f32⟩
  | 24 => ⟨S_, .f32⟩
  | 25 => ⟨S36, .f32⟩
  | 26 => ⟨S_, .f32⟩
  | 27 => ⟨S36, .f32⟩
  | 28 => ⟨S_, .i32⟩
  | 29 => ⟨S_, .i32⟩
  | 30 => ⟨S39x2x100, .f32⟩
  | 31 => ⟨S2x286, .i32⟩
  | 32 => ⟨S8x64, .f32⟩
  | 33 => ⟨S64, .f32⟩
  | 34 => ⟨S128x2496, .f32⟩
  | 35 => ⟨S128, .f32⟩
  | 36 => ⟨S256x128, .f32⟩
  | 37 => ⟨S256, .f32⟩
  | 38 => ⟨S36x256, .f32⟩
  | 39 => ⟨S36, .f32⟩
  | 40 => ⟨S_, .i32⟩
  | 41 => ⟨S_, .i32⟩
  | 42 => ⟨S39x64, .f32⟩
  | 43 => ⟨S39x64, .f32⟩
  | 44 => ⟨S128, .f32⟩
  | 45 => ⟨S128, .f32⟩
  | 46 => ⟨S256, .f32⟩
  | 47 => ⟨S256, .f32⟩
  | 48 => ⟨S36, .f32⟩
  | 49 => ⟨S36, .f32⟩
  | 50 => ⟨S36, .f32⟩
  | 51 => ⟨S_, .i32⟩
  | 52 => ⟨S_, .i1⟩
  | 53 => ⟨S_, .i32⟩
  | 54 => ⟨S_, .i32⟩
  | 55 => ⟨S_, .i32⟩
  | 56 => ⟨S_, .i1⟩
  | 57 => ⟨S_, .i32⟩
  | 58 => ⟨S_, .i32⟩
  | 59 => ⟨S_, .i32⟩
  | 60 => ⟨S_, .i32⟩
  | 61 => ⟨S_, .i32⟩
  | 62 => ⟨S_, .i32⟩
  | 63 => ⟨S39x2x1, .f32⟩
  | 64 => ⟨S39x2, .f32⟩
  | 65 => ⟨S_, .f32⟩
  | 66 => ⟨S39x64, .f32⟩
  | 67 => ⟨S39x64, .f32⟩
  | 68 => ⟨S_, .f32⟩
  | 69 => ⟨S39x64, .f32⟩
  | 70 => ⟨S39x64, .f32⟩
  | 71 => ⟨S39x64, .f32⟩
  | 72 => ⟨S1x286, .i32⟩
  | 73 => ⟨S286, .i32⟩
  | 74 => ⟨S1x286, .i32⟩
  | 75 => ⟨S286, .i32⟩
  | 76 => ⟨S_, .f32⟩
  | 77 => ⟨S286, .f32⟩
  | 78 => ⟨S_, .f32⟩
  | 79 => ⟨S39, .f32⟩
  | 80 => ⟨S_, .i32⟩
  | 81 => ⟨S286, .i32⟩
  | 82 => ⟨S286, .i1⟩
  | 83 => ⟨S_, .i32⟩
  | 84 => ⟨S286, .i32⟩
  | 85 => ⟨S286, .i32⟩
  | 86 => ⟨S286, .i32⟩
  | 87 => ⟨S286x1, .i32⟩
  | 88 => ⟨S39, .f32⟩
  | 89 => ⟨S_, .f32⟩
  | 90 => ⟨S39, .f32⟩
  | 91 => ⟨S39, .i1⟩
  | 92 => ⟨S39, .f32⟩
  | 93 => ⟨S_, .f32⟩
  | 94 => ⟨S39, .f32⟩
  | 95 => ⟨S39, .f32⟩
  | 96 => ⟨S_, .f32⟩
  | 97 => ⟨S_, .f32⟩
  | 98 => ⟨S39, .f32⟩
  | 99 => ⟨S39, .f32⟩
  | 100 => ⟨S_, .i32⟩
  | 101 => ⟨S286, .i32⟩
  | 102 => ⟨S286, .i1⟩
  | 103 => ⟨S_, .i32⟩
  | 104 => ⟨S286, .i32⟩
  | 105 => ⟨S286, .i32⟩
  | 106 => ⟨S286, .i32⟩
  | 107 => ⟨S286x1, .i32⟩
  | 108 => ⟨S286, .f32⟩
  | 109 => ⟨S_, .i32⟩
  | 110 => ⟨S286, .i32⟩
  | 111 => ⟨S286, .i1⟩
  | 112 => ⟨S_, .i32⟩
  | 113 => ⟨S286, .i32⟩
  | 114 => ⟨S286, .i32⟩
  | 115 => ⟨S286, .i32⟩
  | 116 => ⟨S286x1, .i32⟩
  | 117 => ⟨S286, .f32⟩
  | 118 => ⟨S286, .f32⟩
  | 119 => ⟨S_, .i32⟩
  | 120 => ⟨S286, .i32⟩
  | 121 => ⟨S286, .i1⟩
  | 122 => ⟨S_, .i32⟩
  | 123 => ⟨S286, .i32⟩
  | 124 => ⟨S286, .i32⟩
  | 125 => ⟨S286, .i32⟩
  | 126 => ⟨S286x1, .i32⟩
  | 127 => ⟨S286x2, .f32⟩
  | _ => ⟨S39x2x100, .f32⟩

abbrev hbmTy0_1 (i : Nat) : BufTy := match i % 128 with
  | 0 => ⟨S286x1, .f32⟩
  | 1 => ⟨S286x2, .f32⟩
  | 2 => ⟨S286x2, .f32⟩
  | 3 => ⟨S_, .f32⟩
  | 4 => ⟨S39x2, .f32⟩
  | 5 => ⟨S_, .i32⟩
  | 6 => ⟨S286, .i32⟩
  | 7 => ⟨S286, .i1⟩
  | 8 => ⟨S_, .i32⟩
  | 9 => ⟨S286, .i32⟩
  | 10 => ⟨S286, .i32⟩
  | 11 => ⟨S286, .i32⟩
  | 12 => ⟨S286x1, .i32⟩
  | 13 => ⟨S39x2, .f32⟩
  | 14 => ⟨S_, .i32⟩
  | 15 => ⟨S286, .i32⟩
  | 16 => ⟨S286, .i1⟩
  | 17 => ⟨S_, .i32⟩
  | 18 => ⟨S286, .i32⟩
  | 19 => ⟨S286, .i32⟩
  | 20 => ⟨S286, .i32⟩
  | 21 => ⟨S286x1, .i32⟩
  | 22 => ⟨S286x2, .f32⟩
  | 23 => ⟨S286x1, .f32⟩
  | 24 => ⟨S286x2, .f32⟩
  | 25 => ⟨S286x2, .f32⟩
  | 26 => ⟨S_, .f32⟩
  | 27 => ⟨S39x2, .f32⟩
  | 28 => ⟨S_, .i32⟩
  | 29 => ⟨S286, .i32⟩
  | 30 => ⟨S286, .i1⟩
  | 31 => ⟨S_, .i32⟩
  | 32 => ⟨S286, .i32⟩
  | 33 => ⟨S286, .i32⟩
  | 34 => ⟨S286, .i32⟩
  | 35 => ⟨S286x1, .i32⟩
  | 36 => ⟨S39x2, .f32⟩
  | 37 => ⟨S_, .i32⟩
  | 38 => ⟨S286, .i32⟩
  | 39 => ⟨S286, .i1⟩
  | 40 => ⟨S_, .i32⟩
  | 41 => ⟨S286, .i32⟩
  | 42 => ⟨S286, .i32⟩
  | 43 => ⟨S286, .i32⟩
  | 44 => ⟨S286x1, .i32⟩
  | 45 => ⟨S286x2, .f32⟩
  | 46 => ⟨S286x1, .f32⟩
  | 47 => ⟨S286x2, .f32⟩
  | 48 => ⟨S286x2, .f32⟩
  | 49 => ⟨S_, .f32⟩
  | 50 => ⟨S39x2, .f32⟩
  | 51 => ⟨S_, .i32⟩
  | 52 => ⟨S286, .i32⟩
  | 53 => ⟨S286, .i1⟩
  | 54 => ⟨S_, .i32⟩
  | 55 => ⟨S286, .i32⟩
  | 56 => ⟨S286, .i32⟩
  | 57 => ⟨S286, .i32⟩
  | 58 => ⟨S286x1, .i32⟩
  | 59 => ⟨S39x2, .f32⟩
  | 60 => ⟨S39x8, .f32⟩
  | 61 => ⟨S39x64, .f32⟩
  | 62 => ⟨S1x64, .f32⟩
  | 63 => ⟨S39x64, .f32⟩
  | 64 => ⟨S39x64, .f32⟩
  | 65 => ⟨S39x64, .f32⟩
  | 66 => ⟨S_, .f32⟩
  | 67 => ⟨S39x64, .f32⟩
  | 68 => ⟨S39x64, .i1⟩
  | 69 => ⟨S39x64, .f32⟩
  | 70 => ⟨S2496, .f32⟩
  | 71 => ⟨S_, .f32⟩
  | 72 => ⟨S128, .f32⟩
  | 73 => ⟨S128, .f32⟩
  | 74 => ⟨S_, .f32⟩
  | 75 => ⟨S128, .f32⟩
  | 76 => ⟨S128, .f32⟩
  | 77 => ⟨S128, .f32⟩
  | 78 => ⟨S2496x128, .f32⟩
  | 79 => ⟨S128, .f32⟩
  | 80 => ⟨S128, .f32⟩
  | 81 => ⟨S128, .f32⟩
  | 82 => ⟨S_, .f32⟩
  | 83 => ⟨S128, .f32⟩
  | 84 => ⟨S128, .i1⟩
  | 85 => ⟨S128, .f32⟩
  | 86 => ⟨S_, .f32⟩
  | 87 => ⟨S256, .f32⟩
  | 88 => ⟨S256, .f32⟩
  | 89 => ⟨S_, .f32⟩
  | 90 => ⟨S256, .f32⟩
  | 91 => ⟨S256, .f32⟩
  | 92 => ⟨S256, .f32⟩
  | 93 => ⟨S128x256, .f32⟩
  | 94 => ⟨S256, .f32⟩
  | 95 => ⟨S256, .f32⟩
  | 96 => ⟨S256, .f32⟩
  | 97 => ⟨S_, .f32⟩
  | 98 => ⟨S256, .f32⟩
  | 99 => ⟨S256, .i1⟩
  | 100 => ⟨S256, .f32⟩
  | 101 => ⟨S_, .f32⟩
  | 102 => ⟨S36, .f32⟩
  | 103 => ⟨S36, .f32⟩
  | 104 => ⟨S_, .f32⟩
  | 105 => ⟨S36, .f32⟩
  | 106 => ⟨S36, .f32⟩
  | 107 => ⟨S36, .f32⟩
  | 108 => ⟨S256x36, .f32⟩
  | 109 => ⟨S36, .f32⟩
  | 110 => ⟨S36, .f32⟩
  | 111 => ⟨S36, .f32⟩
  | 112 => ⟨S_, .f32⟩
  | 113 => ⟨S36, .f32⟩
  | 114 => ⟨S36, .i1⟩
  | 115 => ⟨S36, .f32⟩
  | 116 => ⟨S36, .f32⟩
  | 117 => ⟨S_, .i32⟩
  | 118 => ⟨S_, .i32⟩
  | 119 => ⟨S_, .f32⟩
  | 120 => ⟨S36, .f32⟩
  | 121 => ⟨S36, .f32⟩
  | _ => ⟨S39x2x100, .f32⟩

abbrev hbmTy (i : Nat) : BufTy := match i / 128 with
  | 0 => hbmTy0_0 i
  | 1 => hbmTy0_1 i
  | _ => ⟨S39x2x100, .f32⟩

abbrev bufTy : (tb : Table) → Fin (tcTables nBuf tb) → BufTy
  | .hbm, ⟨i, _⟩ => hbmTy i
  | _, _ => ⟨S39x2x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_cst_1 : Ref sig .tc := ⟨.hbm, 14, rfl⟩
abbrev main_v2 : Ref sig .tc := ⟨.hbm, 15, rfl⟩
abbrev main_cst_2 : Ref sig .tc := ⟨.hbm, 16, rfl⟩
abbrev main_v3 : Ref sig .tc := ⟨.hbm, 17, rfl⟩
abbrev main_cst_3 : Ref sig .tc := ⟨.hbm, 18, rfl⟩
abbrev main_v4 : Ref sig .tc := ⟨.hbm, 19, rfl⟩
abbrev main_cst_4 : Ref sig .tc := ⟨.hbm, 20, rfl⟩
abbrev main_v5 : Ref sig .tc := ⟨.hbm, 21, rfl⟩
abbrev main_cst_5 : Ref sig .tc := ⟨.hbm, 22, rfl⟩
abbrev main_v6 : Ref sig .tc := ⟨.hbm, 23, rfl⟩
abbrev main_cst_6 : Ref sig .tc := ⟨.hbm, 24, rfl⟩
abbrev main_v7 : Ref sig .tc := ⟨.hbm, 25, rfl⟩
abbrev main_cst_7 : Ref sig .tc := ⟨.hbm, 26, rfl⟩
abbrev main_v8 : Ref sig .tc := ⟨.hbm, 27, rfl⟩
abbrev main_c : Ref sig .tc := ⟨.hbm, 28, rfl⟩
abbrev main_c_8 : Ref sig .tc := ⟨.hbm, 29, rfl⟩
abbrev main_v9_0 : Ref sig .tc := ⟨.hbm, 30, rfl⟩
abbrev main_v9_1 : Ref sig .tc := ⟨.hbm, 31, rfl⟩
abbrev main_v9_2 : Ref sig .tc := ⟨.hbm, 32, rfl⟩
abbrev main_v9_3 : Ref sig .tc := ⟨.hbm, 33, rfl⟩
abbrev main_v9_4 : Ref sig .tc := ⟨.hbm, 34, rfl⟩
abbrev main_v9_5 : Ref sig .tc := ⟨.hbm, 35, rfl⟩
abbrev main_v9_6 : Ref sig .tc := ⟨.hbm, 36, rfl⟩
abbrev main_v9_7 : Ref sig .tc := ⟨.hbm, 37, rfl⟩
abbrev main_v9_8 : Ref sig .tc := ⟨.hbm, 38, rfl⟩
abbrev main_v9_9 : Ref sig .tc := ⟨.hbm, 39, rfl⟩
abbrev main_v9_10 : Ref sig .tc := ⟨.hbm, 40, rfl⟩
abbrev main_v9_11 : Ref sig .tc := ⟨.hbm, 41, rfl⟩
abbrev main_v9_12 : Ref sig .tc := ⟨.hbm, 42, rfl⟩
abbrev main_v9_13 : Ref sig .tc := ⟨.hbm, 43, rfl⟩
abbrev main_v9_14 : Ref sig .tc := ⟨.hbm, 44, rfl⟩
abbrev main_v9_15 : Ref sig .tc := ⟨.hbm, 45, rfl⟩
abbrev main_v9_16 : Ref sig .tc := ⟨.hbm, 46, rfl⟩
abbrev main_v9_17 : Ref sig .tc := ⟨.hbm, 47, rfl⟩
abbrev main_v9_18 : Ref sig .tc := ⟨.hbm, 48, rfl⟩
abbrev main_v9_19 : Ref sig .tc := ⟨.hbm, 49, rfl⟩
abbrev main_v9_20 : Ref sig .tc := ⟨.hbm, 50, rfl⟩
abbrev main_while0c_c_30 : Ref sig .tc := ⟨.hbm, 51, rfl⟩
abbrev main_while0c_v12 : Ref sig .tc := ⟨.hbm, 52, rfl⟩
abbrev main_while0b_c_30 : Ref sig .tc := ⟨.hbm, 53, rfl⟩
abbrev main_while0b_v12 : Ref sig .tc := ⟨.hbm, 54, rfl⟩
abbrev main_while0b_call0_c : Ref sig .tc := ⟨.hbm, 55, rfl⟩
abbrev main_while0b_call0_v0 : Ref sig .tc := ⟨.hbm, 56, rfl⟩
abbrev main_while0b_call0_v1 : Ref sig .tc := ⟨.hbm, 57, rfl⟩
abbrev main_while0b_call0_c_0 : Ref sig .tc := ⟨.hbm, 58, rfl⟩
abbrev main_while0b_call0_v2 : Ref sig .tc := ⟨.hbm, 59, rfl⟩
abbrev main_while0b_call0_v3 : Ref sig .tc := ⟨.hbm, 60, rfl⟩
abbrev main_while0b_call0_c_1 : Ref sig .tc := ⟨.hbm, 61, rfl⟩
abbrev main_while0b_call0_c_2 : Ref sig .tc := ⟨.hbm, 62, rfl⟩
abbrev main_while0b_call0_v4 : Ref sig .tc := ⟨.hbm, 63, rfl⟩
abbrev main_while0b_v13 : Ref sig .tc := ⟨.hbm, 64, rfl⟩
abbrev main_while0b_cst_31 : Ref sig .tc := ⟨.hbm, 65, rfl⟩
abbrev main_while0b_v14 : Ref sig .tc := ⟨.hbm, 66, rfl⟩
abbrev main_while0b_v15 : Ref sig .tc := ⟨.hbm, 67, rfl⟩
abbrev main_while0b_cst_32 : Ref sig .tc := ⟨.hbm, 68, rfl⟩
abbrev main_while0b_v16 : Ref sig .tc := ⟨.hbm, 69, rfl⟩
abbrev main_while0b_v17 : Ref sig .tc := ⟨.hbm, 70, rfl⟩
abbrev main_while0b_v18 : Ref sig .tc := ⟨.hbm, 71, rfl⟩
abbrev main_while0b_v19 : Ref sig .tc := ⟨.hbm, 72, rfl⟩
abbrev main_while0b_v20 : Ref sig .tc := ⟨.hbm, 73, rfl⟩
abbrev main_while0b_v21 : Ref sig .tc := ⟨.hbm, 74, rfl⟩
abbrev main_while0b_v22 : Ref sig .tc := ⟨.hbm, 75, rfl⟩
abbrev main_while0b_cst_33 : Ref sig .tc := ⟨.hbm, 76, rfl⟩
abbrev main_while0b_v23 : Ref sig .tc := ⟨.hbm, 77, rfl⟩
abbrev main_while0b_cst_34 : Ref sig .tc := ⟨.hbm, 78, rfl⟩
abbrev main_while0b_v24 : Ref sig .tc := ⟨.hbm, 79, rfl⟩
abbrev main_while0b_c_35 : Ref sig .tc := ⟨.hbm, 80, rfl⟩
abbrev main_while0b_v25 : Ref sig .tc := ⟨.hbm, 81, rfl⟩
abbrev main_while0b_v26 : Ref sig .tc := ⟨.hbm, 82, rfl⟩
abbrev main_while0b_c_36 : Ref sig .tc := ⟨.hbm, 83, rfl⟩
abbrev main_while0b_v27 : Ref sig .tc := ⟨.hbm, 84, rfl⟩
abbrev main_while0b_v28 : Ref sig .tc := ⟨.hbm, 85, rfl⟩
abbrev main_while0b_v29 : Ref sig .tc := ⟨.hbm, 86, rfl⟩
abbrev main_while0b_v30 : Ref sig .tc := ⟨.hbm, 87, rfl⟩
abbrev main_while0b_v31 : Ref sig .tc := ⟨.hbm, 88, rfl⟩
abbrev main_while0b_cst_37 : Ref sig .tc := ⟨.hbm, 89, rfl⟩
abbrev main_while0b_v32 : Ref sig .tc := ⟨.hbm, 90, rfl⟩
abbrev main_while0b_v33 : Ref sig .tc := ⟨.hbm, 91, rfl⟩
abbrev main_while0b_v34 : Ref sig .tc := ⟨.hbm, 92, rfl⟩
abbrev main_while0b_cst_38 : Ref sig .tc := ⟨.hbm, 93, rfl⟩
abbrev main_while0b_v35 : Ref sig .tc := ⟨.hbm, 94, rfl⟩
abbrev main_while0b_v36 : Ref sig .tc := ⟨.hbm, 95, rfl⟩
abbrev main_while0b_cst_39 : Ref sig .tc := ⟨.hbm, 96, rfl⟩
abbrev main_while0b_call1_v0 : Ref sig .tc := ⟨.hbm, 97, rfl⟩
abbrev main_while0b_call1_v1 : Ref sig .tc := ⟨.hbm, 98, rfl⟩
abbrev main_while0b_v37 : Ref sig .tc := ⟨.hbm, 99, rfl⟩
abbrev main_while0b_c_40 : Ref sig .tc := ⟨.hbm, 100, rfl⟩
abbrev main_while0b_v38 : Ref sig .tc := ⟨.hbm, 101, rfl⟩
abbrev main_while0b_v39 : Ref sig .tc := ⟨.hbm, 102, rfl⟩
abbrev main_while0b_c_41 : Ref sig .tc := ⟨.hbm, 103, rfl⟩
abbrev main_while0b_v40 : Ref sig .tc := ⟨.hbm, 104, rfl⟩
abbrev main_while0b_v41 : Ref sig .tc := ⟨.hbm, 105, rfl⟩
abbrev main_while0b_v42 : Ref sig .tc := ⟨.hbm, 106, rfl⟩
abbrev main_while0b_v43 : Ref sig .tc := ⟨.hbm, 107, rfl⟩
abbrev main_while0b_v44 : Ref sig .tc := ⟨.hbm, 108, rfl⟩
abbrev main_while0b_c_42 : Ref sig .tc := ⟨.hbm, 109, rfl⟩
abbrev main_while0b_v45 : Ref sig .tc := ⟨.hbm, 110, rfl⟩
abbrev main_while0b_v46 : Ref sig .tc := ⟨.hbm, 111, rfl⟩
abbrev main_while0b_c_43 : Ref sig .tc := ⟨.hbm, 112, rfl⟩
abbrev main_while0b_v47 : Ref sig .tc := ⟨.hbm, 113, rfl⟩
abbrev main_while0b_v48 : Ref sig .tc := ⟨.hbm, 114, rfl⟩
abbrev main_while0b_v49 : Ref sig .tc := ⟨.hbm, 115, rfl⟩
abbrev main_while0b_v50 : Ref sig .tc := ⟨.hbm, 116, rfl⟩
abbrev main_while0b_v51 : Ref sig .tc := ⟨.hbm, 117, rfl⟩
abbrev main_while0b_v52 : Ref sig .tc := ⟨.hbm, 118, rfl⟩
abbrev main_while0b_c_44 : Ref sig .tc := ⟨.hbm, 119, rfl⟩
abbrev main_while0b_v53 : Ref sig .tc := ⟨.hbm, 120, rfl⟩
abbrev main_while0b_v54 : Ref sig .tc := ⟨.hbm, 121, rfl⟩
abbrev main_while0b_c_45 : Ref sig .tc := ⟨.hbm, 122, rfl⟩
abbrev main_while0b_v55 : Ref sig .tc := ⟨.hbm, 123, rfl⟩
abbrev main_while0b_v56 : Ref sig .tc := ⟨.hbm, 124, rfl⟩
abbrev main_while0b_v57 : Ref sig .tc := ⟨.hbm, 125, rfl⟩
abbrev main_while0b_v58 : Ref sig .tc := ⟨.hbm, 126, rfl⟩
abbrev main_while0b_v59 : Ref sig .tc := ⟨.hbm, 127, rfl⟩
abbrev main_while0b_v60 : Ref sig .tc := ⟨.hbm, 128, rfl⟩
abbrev main_while0b_v61 : Ref sig .tc := ⟨.hbm, 129, rfl⟩
abbrev main_while0b_v62 : Ref sig .tc := ⟨.hbm, 130, rfl⟩
abbrev main_while0b_cst_46 : Ref sig .tc := ⟨.hbm, 131, rfl⟩
abbrev main_while0b_v63 : Ref sig .tc := ⟨.hbm, 132, rfl⟩
abbrev main_while0b_c_47 : Ref sig .tc := ⟨.hbm, 133, rfl⟩
abbrev main_while0b_v64 : Ref sig .tc := ⟨.hbm, 134, rfl⟩
abbrev main_while0b_v65 : Ref sig .tc := ⟨.hbm, 135, rfl⟩
abbrev main_while0b_c_48 : Ref sig .tc := ⟨.hbm, 136, rfl⟩
abbrev main_while0b_v66 : Ref sig .tc := ⟨.hbm, 137, rfl⟩
abbrev main_while0b_v67 : Ref sig .tc := ⟨.hbm, 138, rfl⟩
abbrev main_while0b_v68 : Ref sig .tc := ⟨.hbm, 139, rfl⟩
abbrev main_while0b_v69 : Ref sig .tc := ⟨.hbm, 140, rfl⟩
abbrev main_while0b_v70 : Ref sig .tc := ⟨.hbm, 141, rfl⟩
abbrev main_while0b_c_49 : Ref sig .tc := ⟨.hbm, 142, rfl⟩
abbrev main_while0b_v71 : Ref sig .tc := ⟨.hbm, 143, rfl⟩
abbrev main_while0b_v72 : Ref sig .tc := ⟨.hbm, 144, rfl⟩
abbrev main_while0b_c_50 : Ref sig .tc := ⟨.hbm, 145, rfl⟩
abbrev main_while0b_v73 : Ref sig .tc := ⟨.hbm, 146, rfl⟩
abbrev main_while0b_v74 : Ref sig .tc := ⟨.hbm, 147, rfl⟩
abbrev main_while0b_v75 : Ref sig .tc := ⟨.hbm, 148, rfl⟩
abbrev main_while0b_v76 : Ref sig .tc := ⟨.hbm, 149, rfl⟩
abbrev main_while0b_v77 : Ref sig .tc := ⟨.hbm, 150, rfl⟩
abbrev main_while0b_v78 : Ref sig .tc := ⟨.hbm, 151, rfl⟩
abbrev main_while0b_v79 : Ref sig .tc := ⟨.hbm, 152, rfl⟩
abbrev main_while0b_v80 : Ref sig .tc := ⟨.hbm, 153, rfl⟩
abbrev main_while0b_cst_51 : Ref sig .tc := ⟨.hbm, 154, rfl⟩
abbrev main_while0b_v81 : Ref sig .tc := ⟨.hbm, 155, rfl⟩
abbrev main_while0b_c_52 : Ref sig .tc := ⟨.hbm, 156, rfl⟩
abbrev main_while0b_v82 : Ref sig .tc := ⟨.hbm, 157, rfl⟩
abbrev main_while0b_v83 : Ref sig .tc := ⟨.hbm, 158, rfl⟩
abbrev main_while0b_c_53 : Ref sig .tc := ⟨.hbm, 159, rfl⟩
abbrev main_while0b_v84 : Ref sig .tc := ⟨.hbm, 160, rfl⟩
abbrev main_while0b_v85 : Ref sig .tc := ⟨.hbm, 161, rfl⟩
abbrev main_while0b_v86 : Ref sig .tc := ⟨.hbm, 162, rfl⟩
abbrev main_while0b_v87 : Ref sig .tc := ⟨.hbm, 163, rfl⟩
abbrev main_while0b_v88 : Ref sig .tc := ⟨.hbm, 164, rfl⟩
abbrev main_while0b_c_54 : Ref sig .tc := ⟨.hbm, 165, rfl⟩
abbrev main_while0b_v89 : Ref sig .tc := ⟨.hbm, 166, rfl⟩
abbrev main_while0b_v90 : Ref sig .tc := ⟨.hbm, 167, rfl⟩
abbrev main_while0b_c_55 : Ref sig .tc := ⟨.hbm, 168, rfl⟩
abbrev main_while0b_v91 : Ref sig .tc := ⟨.hbm, 169, rfl⟩
abbrev main_while0b_v92 : Ref sig .tc := ⟨.hbm, 170, rfl⟩
abbrev main_while0b_v93 : Ref sig .tc := ⟨.hbm, 171, rfl⟩
abbrev main_while0b_v94 : Ref sig .tc := ⟨.hbm, 172, rfl⟩
abbrev main_while0b_v95 : Ref sig .tc := ⟨.hbm, 173, rfl⟩
abbrev main_while0b_v96 : Ref sig .tc := ⟨.hbm, 174, rfl⟩
abbrev main_while0b_v97 : Ref sig .tc := ⟨.hbm, 175, rfl⟩
abbrev main_while0b_v98 : Ref sig .tc := ⟨.hbm, 176, rfl⟩
abbrev main_while0b_cst_56 : Ref sig .tc := ⟨.hbm, 177, rfl⟩
abbrev main_while0b_v99 : Ref sig .tc := ⟨.hbm, 178, rfl⟩
abbrev main_while0b_c_57 : Ref sig .tc := ⟨.hbm, 179, rfl⟩
abbrev main_while0b_v100 : Ref sig .tc := ⟨.hbm, 180, rfl⟩
abbrev main_while0b_v101 : Ref sig .tc := ⟨.hbm, 181, rfl⟩
abbrev main_while0b_c_58 : Ref sig .tc := ⟨.hbm, 182, rfl⟩
abbrev main_while0b_v102 : Ref sig .tc := ⟨.hbm, 183, rfl⟩
abbrev main_while0b_v103 : Ref sig .tc := ⟨.hbm, 184, rfl⟩
abbrev main_while0b_v104 : Ref sig .tc := ⟨.hbm, 185, rfl⟩
abbrev main_while0b_v105 : Ref sig .tc := ⟨.hbm, 186, rfl⟩
abbrev main_while0b_v106 : Ref sig .tc := ⟨.hbm, 187, rfl⟩
abbrev main_while0b_v107 : Ref sig .tc := ⟨.hbm, 188, rfl⟩
abbrev main_while0b_v108 : Ref sig .tc := ⟨.hbm, 189, rfl⟩
abbrev main_while0b_v109 : Ref sig .tc := ⟨.hbm, 190, rfl⟩
abbrev main_while0b_v110 : Ref sig .tc := ⟨.hbm, 191, rfl⟩
abbrev main_while0b_v111 : Ref sig .tc := ⟨.hbm, 192, rfl⟩
abbrev main_while0b_v112 : Ref sig .tc := ⟨.hbm, 193, rfl⟩
abbrev main_while0b_cst_59 : Ref sig .tc := ⟨.hbm, 194, rfl⟩
abbrev main_while0b_v113 : Ref sig .tc := ⟨.hbm, 195, rfl⟩
abbrev main_while0b_v114 : Ref sig .tc := ⟨.hbm, 196, rfl⟩
abbrev main_while0b_v115 : Ref sig .tc := ⟨.hbm, 197, rfl⟩
abbrev main_while0b_v116 : Ref sig .tc := ⟨.hbm, 198, rfl⟩
abbrev main_while0b_cst_60 : Ref sig .tc := ⟨.hbm, 199, rfl⟩
abbrev main_while0b_v117 : Ref sig .tc := ⟨.hbm, 200, rfl⟩
abbrev main_while0b_v118 : Ref sig .tc := ⟨.hbm, 201, rfl⟩
abbrev main_while0b_cst_61 : Ref sig .tc := ⟨.hbm, 202, rfl⟩
abbrev main_while0b_v119 : Ref sig .tc := ⟨.hbm, 203, rfl⟩
abbrev main_while0b_v120 : Ref sig .tc := ⟨.hbm, 204, rfl⟩
abbrev main_while0b_v121 : Ref sig .tc := ⟨.hbm, 205, rfl⟩
abbrev main_while0b_v122 : Ref sig .tc := ⟨.hbm, 206, rfl⟩
abbrev main_while0b_v123 : Ref sig .tc := ⟨.hbm, 207, rfl⟩
abbrev main_while0b_v124 : Ref sig .tc := ⟨.hbm, 208, rfl⟩
abbrev main_while0b_v125 : Ref sig .tc := ⟨.hbm, 209, rfl⟩
abbrev main_while0b_cst_62 : Ref sig .tc := ⟨.hbm, 210, rfl⟩
abbrev main_while0b_v126 : Ref sig .tc := ⟨.hbm, 211, rfl⟩
abbrev main_while0b_v127 : Ref sig .tc := ⟨.hbm, 212, rfl⟩
abbrev main_while0b_v128 : Ref sig .tc := ⟨.hbm, 213, rfl⟩
abbrev main_while0b_cst_63 : Ref sig .tc := ⟨.hbm, 214, rfl⟩
abbrev main_while0b_v129 : Ref sig .tc := ⟨.hbm, 215, rfl⟩
abbrev main_while0b_v130 : Ref sig .tc := ⟨.hbm, 216, rfl⟩
abbrev main_while0b_cst_64 : Ref sig .tc := ⟨.hbm, 217, rfl⟩
abbrev main_while0b_v131 : Ref sig .tc := ⟨.hbm, 218, rfl⟩
abbrev main_while0b_v132 : Ref sig .tc := ⟨.hbm, 219, rfl⟩
abbrev main_while0b_v133 : Ref sig .tc := ⟨.hbm, 220, rfl⟩
abbrev main_while0b_v134 : Ref sig .tc := ⟨.hbm, 221, rfl⟩
abbrev main_while0b_v135 : Ref sig .tc := ⟨.hbm, 222, rfl⟩
abbrev main_while0b_v136 : Ref sig .tc := ⟨.hbm, 223, rfl⟩
abbrev main_while0b_v137 : Ref sig .tc := ⟨.hbm, 224, rfl⟩
abbrev main_while0b_cst_65 : Ref sig .tc := ⟨.hbm, 225, rfl⟩
abbrev main_while0b_v138 : Ref sig .tc := ⟨.hbm, 226, rfl⟩
abbrev main_while0b_v139 : Ref sig .tc := ⟨.hbm, 227, rfl⟩
abbrev main_while0b_v140 : Ref sig .tc := ⟨.hbm, 228, rfl⟩
abbrev main_while0b_cst_66 : Ref sig .tc := ⟨.hbm, 229, rfl⟩
abbrev main_while0b_v141 : Ref sig .tc := ⟨.hbm, 230, rfl⟩
abbrev main_while0b_v142 : Ref sig .tc := ⟨.hbm, 231, rfl⟩
abbrev main_while0b_cst_67 : Ref sig .tc := ⟨.hbm, 232, rfl⟩
abbrev main_while0b_v143 : Ref sig .tc := ⟨.hbm, 233, rfl⟩
abbrev main_while0b_v144 : Ref sig .tc := ⟨.hbm, 234, rfl⟩
abbrev main_while0b_v145 : Ref sig .tc := ⟨.hbm, 235, rfl⟩
abbrev main_while0b_v146 : Ref sig .tc := ⟨.hbm, 236, rfl⟩
abbrev main_while0b_v147 : Ref sig .tc := ⟨.hbm, 237, rfl⟩
abbrev main_while0b_v148 : Ref sig .tc := ⟨.hbm, 238, rfl⟩
abbrev main_while0b_v149 : Ref sig .tc := ⟨.hbm, 239, rfl⟩
abbrev main_while0b_cst_68 : Ref sig .tc := ⟨.hbm, 240, rfl⟩
abbrev main_while0b_v150 : Ref sig .tc := ⟨.hbm, 241, rfl⟩
abbrev main_while0b_v151 : Ref sig .tc := ⟨.hbm, 242, rfl⟩
abbrev main_while0b_v152 : Ref sig .tc := ⟨.hbm, 243, rfl⟩
abbrev main_while0b_v153 : Ref sig .tc := ⟨.hbm, 244, rfl⟩
abbrev main_while0b_c_69 : Ref sig .tc := ⟨.hbm, 245, rfl⟩
abbrev main_while0b_v154 : Ref sig .tc := ⟨.hbm, 246, rfl⟩
abbrev main_cst_9 : Ref sig .tc := ⟨.hbm, 247, rfl⟩
abbrev main_v10 : Ref sig .tc := ⟨.hbm, 248, rfl⟩
abbrev main_v11 : Ref sig .tc := ⟨.hbm, 249, rfl⟩

abbrev nD : Nat := 1
abbrev τ : Topo := Topo.v7x

variable {F : FTy → Type} [FloatOps F]

abbrev main_while0_count : Scf.Loop 32 := ⟨0#32, 100#32, 1#32⟩
-- ==== Proof.WordRun.lean ====
module
public import proofs.«01_k».proof.Proof.Gen.Kernel.Frame.Runs

/-!
The body of the kernel over float words, run once from its buffers: the twelve inputs are left as found; of the result's block
and of the scratch nothing is said.
-/

@[expose] public section

set_option maxRecDepth 16384

noncomputable section

namespace Cert.Kernel.Launched

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 2000000 in
/-- The body runs to its end from whole buffers, and leaves its twelve inputs as they were. -/
theorem body_run (c : Dev nD) (arg0 : Memref sig .tc .vmem S100x78 .f32) (harg0 : arg0.IsWhole) (arg1 : Memref sig .tc .vmem S1x286 .i32) (harg1 : arg1.IsWhole) (arg2 : Memref sig .tc .vmem S1x286 .i32) (harg2 : arg2.IsWhole) (arg3 : Memref sig .tc .vmem S286x1 .i32) (harg3 : arg3.IsWhole) (arg4 : Memref sig .tc .vmem S8x64 .f32) (harg4 : arg4.IsWhole) (arg5 : Memref sig .tc .vmem S1x64 .f32) (harg5 : arg5.IsWhole) (arg6 : Memref sig .tc .vmem S128x2496 .f32) (harg6 : arg6.IsWhole) (arg7 : Memref sig .tc .vmem S1x128 .f32) (harg7 : arg7.IsWhole) (arg8 : Memref sig .tc .vmem S256x128 .f32) (harg8 : arg8.IsWhole) (arg9 : Memref sig .tc .vmem S1x256 .f32) (harg9 : arg9.IsWhole) (arg10 : Memref sig .tc .vmem S128x256 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S100x2496 .f32) (harg13 : arg13.IsWhole) (arg14 : Memref sig .tc .vmem S100x2496 .f32) (harg14 : arg14.IsWhole) (arg15 : Memref sig .tc .vmem S100x128 .f32) (harg15 : arg15.IsWhole) (arg16 : Memref sig .tc .vmem S100x128 .f32) (harg16 : arg16.IsWhole) (arg17 : Memref sig .tc .vmem S100x256 .f32) (harg17 : arg17.IsWhole) (arg18 : Memref sig .tc .vmem S100x256 .f32) (harg18 : arg18.IsWhole) (arg19 : Memref sig .tc .vmem S100x128 .f32) (harg19 : arg19.IsWhole)
  (x0 : Vec F S100x78 .f32) (x1 : Vec F S1x286 .i32) (x2 : Vec F S1x286 .i32) (x3 : Vec F S286x1 .i32) (x4 : Vec F S8x64 .f32) (x5 : Vec F S1x64 .f32) (x6 : Vec F S128x2496 .f32) (x7 : Vec F S1x128 .f32) (x8 : Vec F S256x128 .f32) (x9 : Vec F S1x256 .f32) (x10 : Vec F S128x256 .f32) (x11 : Vec F S1x128 .f32) :
    ∀ (E : Set ℕ) (K : PUnit → sProp (MT nD τ sig Unit (Elt F) ℕ (UR sig nD τ) ℕ)),
      iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
          ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)) -∗ K ⟨⟩))
        ⊢ wp frame (wpE (defs₀ (F := F)) Variants.none c none) E (cc0__sgnet_kernel arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  intro E K
  simp only [cc0__sgnet_kernel_eq_skeleton]; unfold cc0__sgnet_kernel_skel
  simp only [k0_part23_eq_skeleton, k0_part16_eq_skeleton, k0_part17_eq_skeleton, k0_part18_eq_skeleton, k0_part19_eq_skeleton, k0_part20_eq_skeleton, k0_part21_eq_skeleton, k0_part22_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, Hk⟩
  obtain rfl := harg0.eq_unread hf0; obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11
  sl_exec
  sl_step
  iapply Hk
  isplitl [H0]
  · iexists _; isplitr; · ipureintro; exact harg0.read_unread _
    iexact H0
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _, _; isplitr; swap; · iexact H12
    ipureintro; rfl
  isplitl [HS0]
  · iexists _, _; isplitr; swap; · iexact HS0
    ipureintro; rfl
  isplitl [HS1]
  · iexists _, _; isplitr; swap; · iexact HS1
    ipureintro; rfl
  isplitl [HS2]
  · iexists _, _; isplitr; swap; · iexact HS2
    ipureintro; rfl
  isplitl [HS3]
  · iexists _, _; isplitr; swap; · iexact HS3
    ipureintro; rfl
  isplitl [HS4]
  · iexists _, _; isplitr; swap; · iexact HS4
    ipureintro; rfl
  isplitl [HS5]
  · iexists _, _; isplitr; swap; · iexact HS5
    ipureintro; rfl
  iexists _, _; isplitr; swap; · iexact HS6
  ipureintro; rfl

end Cert.Kernel.Launched

end
-- ==== Proof.WordFrame.lean ====
module
public import proofs.«01_k».proof.Proof.WordRun
public import Idealize.ShloMosaic.Lib.Claim

/-!
The frame of the kernel over float words: the launch gives the body its arrays whole, and no run changes an argument.
-/

@[expose] public section

set_option maxRecDepth 16384

noncomputable section

namespace Cert.Kernel.Launched

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Nothing is said of the result's block. -/
def forgotten : Fin 13 → Bool := fun w => w.val == 12

/-- What each array holds when the body starts, and what its block holds when the body ends: an input's block is left, and
the result's is not named. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, h⟩ => Pipeline.Dat.unnamed (cfg := cfg0) ⟨12, h⟩ t
  Φ _ := Pipeline.ΦA spec0 c
  q _ := fullShare
  owed _ := 0

/-- Every array starts as the lines before the launch leave it. -/
theorem A_eq (c : Dev nD) (w : Fin cfg0.W) : (dats m 0 c).A w = V m c (Pipeline.arrRef spec0 w) := by
  dsimp only [dats]

/-! What the body leaves in each block. -/

/-- The body leaves input 0 as found. -/
theorem after0_0 (c : Dev nD) (t : Fin cfg0.N) : (dats m 0 c).after 0 t = iblk m c 0 t := by dsimp only [dats]
/-- The body leaves input 1 as found. -/
theorem after0_1 (c : Dev nD) (t : Fin cfg0.N) : (dats m 0 c).after 1 t = iblk m c 1 t := by dsimp only [dats]
/-- The body leaves input 2 as found. -/
theorem after0_2 (c : Dev nD) (t : Fin cfg0.N) : (dats m 0 c).after 2 t = iblk m c 2 t := by dsimp only [dats]
/-- The body leaves input 3 as found. -/
theorem after0_3 (c : Dev nD) (t : Fin cfg0.N) : (dats m 0 c).after 3 t = iblk m c 3 t := by dsimp only [dats]
/-- The body leaves input 4 as found. -/
theorem after0_4 (c : Dev nD) (t : Fin cfg0.N) : (dats m 0 c).after 4 t = iblk m c 4 t := by dsimp only [dats]
/-- The body leaves input 5 as found. -/
theorem after0_5 (c : Dev nD) (t : Fin cfg0.N) : (dats m 0 c).after 5 t = iblk m c 5 t := by dsimp only [dats]
/-- The body leaves input 6 as found. -/
theorem after0_6 (c : Dev nD) (t : Fin cfg0.N) : (dats m 0 c).after 6 t = iblk m c 6 t := by dsimp only [dats]
/-- The body leaves input 7 as found. -/
theorem after0_7 (c : Dev nD) (t : Fin cfg0.N) : (dats m 0 c).after 7 t = iblk m c 7 t := by dsimp only [dats]
/-- The body leaves input 8 as found. -/
theorem after0_8 (c : Dev nD) (t : Fin cfg0.N) : (dats m 0 c).after 8 t = iblk m c 8 t := by dsimp only [dats]
/-- The body leaves input 9 as found. -/
theorem after0_9 (c : Dev nD) (t : Fin cfg0.N) : (dats m 0 c).after 9 t = iblk m c 9 t := by dsimp only [dats]
/-- The body leaves input 10 as found. -/
theorem after0_10 (c : Dev nD) (t : Fin cfg0.N) : (dats m 0 c).after 10 t = iblk m c 10 t := by dsimp only [dats]
/-- The body leaves input 11 as found. -/
theorem after0_11 (c : Dev nD) (t : Fin cfg0.N) : (dats m 0 c).after 11 t = iblk m c 11 t := by dsimp only [dats]

/-! What each input block holds when the body starts. -/

/-- Input 0 is whole in its buffer when the body starts. -/
theorem before0_0 (c : Dev nD) (t : Fin cfg0.N) (d) : (dats m 0 c).before 0 t d = iblk m c 0 t :=
  before0_0_of m (dats m 0 c) (A_eq m c 0) (after0_0 m c) t d
/-- Input 1 is whole in its buffer when the body starts. -/
theorem before0_1 (c : Dev nD) (t : Fin cfg0.N) (d) : (dats m 0 c).before 1 t d = iblk m c 1 t :=
  before0_1_of m (dats m 0 c) (A_eq m c 1) (after0_1 m c) t d
/-- Input 2 is whole in its buffer when the body starts. -/
theorem before0_2 (c : Dev nD) (t : Fin cfg0.N) (d) : (dats m 0 c).before 2 t d = iblk m c 2 t :=
  before0_2_of m (dats m 0 c) (A_eq m c 2) (after0_2 m c) t d
/-- Input 3 is whole in its buffer when the body starts. -/
theorem before0_3 (c : Dev nD) (t : Fin cfg0.N) (d) : (dats m 0 c).before 3 t d = iblk m c 3 t :=
  before0_3_of m (dats m 0 c) (A_eq m c 3) (after0_3 m c) t d
/-- Input 4 is whole in its buffer when the body starts. -/
theorem before0_4 (c : Dev nD) (t : Fin cfg0.N) (d) : (dats m 0 c).before 4 t d = iblk m c 4 t :=
  before0_4_of m (dats m 0 c) (A_eq m c 4) (after0_4 m c) t d
/-- Input 5 is whole in its buffer when the body starts. -/
theorem before0_5 (c : Dev nD) (t : Fin cfg0.N) (d) : (dats m 0 c).before 5 t d = iblk m c 5 t :=
  before0_5_of m (dats m 0 c) (A_eq m c 5) (after0_5 m c) t d
/-- Input 6 is whole in its buffer when the body starts. -/
theorem before0_6 (c : Dev nD) (t : Fin cfg0.N) (d) : (dats m 0 c).before 6 t d = iblk m c 6 t :=
  before0_6_of m (dats m 0 c) (A_eq m c 6) (after0_6 m c) t d
/-- Input 7 is whole in its buffer when the body starts. -/
theorem before0_7 (c : Dev nD) (t : Fin cfg0.N) (d) : (dats m 0 c).before 7 t d = iblk m c 7 t :=
  before0_7_of m (dats m 0 c) (A_eq m c 7) (after0_7 m c) t d
/-- Input 8 is whole in its buffer when the body starts. -/
theorem before0_8 (c : Dev nD) (t : Fin cfg0.N) (d) : (dats m 0 c).before 8 t d = iblk m c 8 t :=
  before0_8_of m (dats m 0 c) (A_eq m c 8) (after0_8 m c) t d
/-- Input 9 is whole in its buffer when the body starts. -/
theorem before0_9 (c : Dev nD) (t : Fin cfg0.N) (d) : (dats m 0 c).before 9 t d = iblk m c 9 t :=
  before0_9_of m (dats m 0 c) (A_eq m c 9) (after0_9 m c) t d
/-- Input 10 is whole in its buffer when the body starts. -/
theorem before0_10 (c : Dev nD) (t : Fin cfg0.N) (d) : (dats m 0 c).before 10 t d = iblk m c 10 t :=
  before0_10_of m (dats m 0 c) (A_eq m c 10) (after0_10 m c) t d
/-- Input 11 is whole in its buffer when the body starts. -/
theorem before0_11 (c : Dev nD) (t : Fin cfg0.N) (d) : (dats m 0 c).before 11 t d = iblk m c 11 t :=
  before0_11_of m (dats m 0 c) (A_eq m c 11) (after0_11 m c) t d

/-- What the body starts from. -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare d))

/-- What the body ends with. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ (∃ d, owns (c : Thread nD τ) (ms0_12 t) fullShare d))

set_option maxHeartbeats 2000000 in
/-- The body runs from what it is given to what it must leave. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11]
  rw [show (dats m 0 c).Φ t.castSucc = Pipeline.ΦA spec0 c from rfl, PhiA0_eq]
  iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (body_run c _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  iintro ⟨H0, H1, H2, H3, H4, H5, H6, H7, H8, H9, H10, H11, H12, HS0, HS1, HS2, HS3, HS4, HS5, HS6⟩
  isplitl [HS0 HS1 HS2 HS3 HS4 HS5 HS6 Hg]
  · isplitl [HS0 HS1 HS2 HS3 HS4 HS5 HS6]
    · isplitl [HS0]
      · iexact HS0
      isplitl [HS1]
      · iexact HS1
      isplitl [HS2]
      · iexact HS2
      isplitl [HS3]
      · iexact HS3
      isplitl [HS4]
      · iexact HS4
      isplitl [HS5]
      · iexact HS5
      iexact HS6
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The body called at a point is the kernel at the point's buffers. -/
theorem defs₀_row (t : Fin cfg0.N) :
    defs₀ (F := F) .tc cfg0.body (cfg0.bodyArgs t (cfg0.slots t)) = bodyAt0 t := by
  unfold defs₀; rw [Defs.onTc_tc]

/-- The body meets its obligation at every point. -/
theorem body_obligation (c : Dev nD) : BodyObligation (dats m 0 c) (defs₀ (F := F)) Variants.none () Set.univ forgotten := fun t => by
  rw [bigSep_W0, bigSep_W0, defs₀_row]
  exact triple_restated (sound_body m c t) rfl .rfl fun _ => .rfl

/-- What the lines after the launch write: of these nothing is said. -/
def after_launch : Finset (Ref sig .tc) := {main_v23, main_v24}

/-- The lines after the launch write nothing else. -/
theorem after_launch_writes : ∀ ops ∈ ([hostOps1] : List (List (HloOp τ sig (Elt F)))), ∀ op ∈ ops,
    ∀ b : Ref sig .tc, Proc.devRef .tc b ∈ op.writes → b ∈ after_launch := by
  intro ops hops op hop
  simp only [List.mem_cons, List.mem_nil_iff, or_false] at hops
  subst hops
  simp only [hostOps1, List.mem_cons, List.mem_nil_iff, or_false] at hop
  rcases hop with rfl | rfl
  all_goals
    intro b hb
    simp only [StableHlo.unary_writes, StableHlo.reshape_writes, Finset.mem_singleton] at hb
    cases Proc.devRef_injective _ hb
    decide

set_option backward.isDefEq.respectTransparency.types false in
set_option maxHeartbeats 800000 in
/-- The whole run: every input of the launch ends as it started, and so does every buffer the later lines do not write. -/
theorem run_main : θ_run defs (onTc (τ := τ) (main (F := F))) (s₀ m ρ)
    (fun r => (Pipeline.RDat.FramePostR (cfgs 0) (fun c => (dats m 0 c).toRForget forgotten) after_launch (V m)) r
      ∧ r.2.sem = fun _ => 0) :=
  Pipeline.θ_run_frame_around_T_forget (Q' := _) cfgs (dats m) (0 : Fin 1) launch0 defs₀ Variants.none forgotten after_launch m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hT := after_launch_writes) (hmain := hmain m Variants.none) (hA := A_eq m) (hΦ := fun _ _ => rfl)

/-- No run changes an argument. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
    ⟨((h.1 c).2 main_arg0 (Finset.mem_sdiff.mpr ⟨Pipeline.mem_restRefs_of main_arg0 (by decide) (by decide), by decide⟩)).trans
        (V_main_arg0 m c),
      ((h.1 c).2 main_arg1 (Finset.mem_sdiff.mpr ⟨Pipeline.mem_restRefs_of main_arg1 (by decide) (by decide), by decide⟩)).trans
        (V_main_arg1 m c),
      (Pipeline.RDat.FramePostR.arr_in h.1 c 4 rfl).trans ((A_eq m c 4).trans (V_main_arg2 m c)),
      ((h.1 c).2 main_arg3 (Finset.mem_sdiff.mpr ⟨Pipeline.mem_restRefs_of main_arg3 (by decide) (by decide), by decide⟩)).trans
        (V_main_arg3 m c),
      (Pipeline.RDat.FramePostR.arr_in h.1 c 6 rfl).trans ((A_eq m c 6).trans (V_main_arg4 m c)),
      ((h.1 c).2 main_arg5 (Finset.mem_sdiff.mpr ⟨Pipeline.mem_restRefs_of main_arg5 (by decide) (by decide), by decide⟩)).trans
        (V_main_arg5 m c),
      (Pipeline.RDat.FramePostR.arr_in h.1 c 8 rfl).trans ((A_eq m c 8).trans (V_main_arg6 m c)),
      ((h.1 c).2 main_arg7 (Finset.mem_sdiff.mpr ⟨Pipeline.mem_restRefs_of main_arg7 (by decide) (by decide), by decide⟩)).trans
        (V_main_arg7 m c),
      ((h.1 c).2 main_arg8 (Finset.mem_sdiff.mpr ⟨Pipeline.mem_restRefs_of main_arg8 (by decide) (by decide), by decide⟩)).trans
        (V_main_arg8 m c),
      ((h.1 c).2 main_arg9 (Finset.mem_sdiff.mpr ⟨Pipeline.mem_restRefs_of main_arg9 (by decide) (by decide), by decide⟩)).trans
        (V_main_arg9 m c)⟩) (run_main m ρ)

/-- The frame: every argument ends as it started and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main m ρ))

end Cert.Kernel.Launched

end
-- ==== Proof.Range.lean ====
module
public import proofs.«01_k».proof.Proof.Gen.Pre_in_range
public import Idealize.ShloMosaic.Lib.ReduceAll
public import Idealize.ShloMosaic.Lib.Pointwise

/-!
What the precondition says: every edge's end is the word of one of the 39 nodes.
-/

@[expose] public section

noncomputable section

namespace Cert.Pre_in_range

open Idealize.ShloMosaic
open Facts

/-- A word at least 0 and below 39, both signed, is a node's word. -/
theorem node_of_bits (x : BitVec 32)
    (h : IntOp.andi (IntOp.cmpi .sge x 0#32) (IntOp.cmpi .slt x 39#32) = 1#1) : ∃ k : Fin 39, x = BitVec.ofNat 32 k.val := by
  obtain ⟨h1, h2⟩ := IntOp.andi_eq_one.1 h
  have g1 : (0#32).sle x = true := by
    by_contra q
    rw [show IntOp.cmpi .sge x 0#32 = BitVec.ofBool ((0#32).sle x) from rfl, Bool.eq_false_iff.2 q] at h1
    exact absurd h1 (by decide)
  have g2 : x.slt 39#32 = true := by
    by_contra q
    rw [show IntOp.cmpi .slt x 39#32 = BitVec.ofBool (x.slt 39#32) from rfl, Bool.eq_false_iff.2 q] at h2
    exact absurd h2 (by decide)
  have hx : x.toNat < 39 := by
    simp only [BitVec.sle, BitVec.slt, decide_eq_true_eq] at g1 g2
    have z : (0#32).toInt = 0 := by decide
    have n : (39#32).toInt = 39 := by decide
    rw [z] at g1
    rw [n] at g2
    rw [BitVec.toInt_eq_toNat_cond] at g1 g2
    split at g1 <;> omega
  exact ⟨⟨x.toNat, hx⟩, (BitVec.eq_of_toNat_eq (by rw [BitVec.toNat_ofNat]; show x.toNat = x.toNat % 2 ^ 32; omega))⟩

variable [Facts]

/-- Every edge's end is a node's word, where the precondition holds. -/
theorem ends (a0 : FVec Ideal S39x2x100 .f32) (a1 : IVec S2x286 32) (a2 : FVec Ideal S8x64 .f32) (a3 : FVec Ideal S64 .f32)
    (a4 : FVec Ideal S128x2496 .f32) (a5 : FVec Ideal S128 .f32) (a6 : FVec Ideal S256x128 .f32) (a7 : FVec Ideal S256 .f32)
    (a8 : FVec Ideal S36x256 .f32) (a9 : FVec Ideal S36 .f32) (i : S_.Idx) (h : fn a0 a1 a2 a3 a4 a5 a6 a7 a8 a9 i = 1#1) (r : Fin 2) (e : Fin 286) :
    ∃ k : Fin 39, a1 (ix2 r e) = BitVec.ofNat 32 k.val := by
  have hs : Subsingleton S_.Idx := ⟨fun a b => funext fun q => q.elim0⟩
  have g := Host.reduce_andi_all _ _ _ _ _ h (ix2 r e)
  exact node_of_bits _ g

end Cert.Pre_in_range

end
-- ==== Proof.Graph.lean ====
module
public import Idealize.ShloMosaic.Lib.Pointwise
public import Idealize.ShloMosaic.PureOps

/-!
The graph convolution, in plain sums over the edges: degrees, the normalisation of an edge, one propagation along the edges,
and the convolution of a node's two features and their three propagations.
-/

@[expose] public section

noncomputable section

namespace Cert.KernelIdeal.Graph

open Idealize.ShloMosaic

/-- The number of edges into node `d`. -/
def deg (dst : Fin 286 → Fin 39) (d : Fin 39) : EReal := ∑ e, if d.val = (dst e).val then 1 else 0

/-- One over the square root of a degree, zero for a degree zero. -/
def rt (x : EReal) : EReal := if 0 < x then Ideal.div 1 (Ideal.sqrt x) else 0

/-- The weight of edge `e`. -/
def norm (src dst : Fin 286 → Fin 39) (e : Fin 286) : EReal := rt (deg dst (src e)) * rt (deg dst (dst e))

/-- One propagation: node `d` receives, along each edge into it, the edge's weight times its source's features. -/
def hop (src dst : Fin 286 → Fin 39) (z : Fin 39 → Fin 2 → EReal) (d : Fin 39) (c : Fin 2) : EReal :=
  ∑ e, if dst e = d then z (src e) c * norm src dst e else 0

/-- The features after `k` propagations. -/
def hopN (src dst : Fin 286 → Fin 39) (z : Fin 39 → Fin 2 → EReal) : ℕ → Fin 39 → Fin 2 → EReal
  | 0 => z
  | k + 1 => hop src dst (hopN src dst z k)

/-- The convolution of node `n`'s features and their three propagations, at output channel `ch`. -/
def conv (src dst : Fin 286 → Fin 39) (z : Fin 39 → Fin 2 → EReal) (w : Fin 8 → Fin 64 → EReal) (b : Fin 64 → EReal)
    (n : Fin 39) (ch : Fin 64) : EReal :=
  (∑ k : Fin 4, ∑ c : Fin 2, hopN src dst z k.val n c * w ⟨k.val * 2 + c.val, by omega⟩ ch) + b ch

/-- A node's count of incoming edges is not negative. -/
theorem deg_nonneg (dst : Fin 286 → Fin 39) (d : Fin 39) : 0 ≤ deg dst d :=
  Finset.sum_nonneg fun e _ => by split <;> simp

/-- A degree's weight is not negative. -/
theorem rt_nonneg (x : EReal) : 0 ≤ rt x := by
  unfold rt
  split
  · next h =>
    induction x using EReal.rec with
    | bot => exact absurd h (by simp)
    | top =>
      show 0 ≤ Ideal.div 1 ⊤
      unfold Ideal.div
      split <;> simp
    | coe r =>
      have hr : 0 < r := by exact_mod_cast h
      have hs : Ideal.sqrt (r : EReal) = (Real.sqrt r : EReal) := if_neg (not_lt.2 hr.le)
      rw [hs]
      unfold Ideal.div
      split
      · simp
      · rw [one_mul]
        exact EReal.inv_nonneg_of_nonneg (by exact_mod_cast Real.sqrt_nonneg r)
  · exact le_rfl

/-- An edge's weight is not negative. -/
theorem norm_nonneg (src dst : Fin 286 → Fin 39) (e : Fin 286) : 0 ≤ norm src dst e :=
  mul_nonneg (rt_nonneg _) (rt_nonneg _)

/-- A factor enters a sum of terms that are not negative. -/
theorem mul_sum {ι : Type} (s : Finset ι) (f : ι → EReal) (hf : ∀ i, 0 ≤ f i) (x : EReal) : x * ∑ i ∈ s, f i = ∑ i ∈ s, x * f i := by
  classical
  induction s using Finset.induction_on with
  | empty => simp
  | insert a s ha ih =>
    rw [Finset.sum_insert ha, Finset.sum_insert ha, EReal.left_distrib_of_nonneg (hf a) (Finset.sum_nonneg fun i _ => hf i), ih]

/-- The weight between two nodes: the sum of the weights of the edges from `s` to `d`. -/
def between (src dst : Fin 286 → Fin 39) (s d : Fin 39) : EReal :=
  ∑ e, ((if s.val = (src e).val then (1 : EReal) else 0) * norm src dst e) * (if d.val = (dst e).val then (1 : EReal) else 0)

/-- A sum over 78 positions against the two-channel expansion of the weights between nodes is one propagation. -/
theorem sum_between (src dst : Fin 286 → Fin 39) (z : Fin 39 → Fin 2 → EReal) (j : Fin 78) (f : Fin 78 → EReal)
    (hf : ∀ i : Fin 78, f i = z ⟨i.val / 2, by omega⟩ ⟨i.val % 2, by omega⟩ *
      (between src dst ⟨i.val / 2, by omega⟩ ⟨j.val / 2, by omega⟩ * (if i.val % 2 = j.val % 2 then (1 : EReal) else 0))) :
    ∑ i, f i = hop src dst z ⟨j.val / 2, by omega⟩ ⟨j.val % 2, by omega⟩ := by
  rw [Fin.sum_univ_tiles 39 2 rfl]
  have h1 : ∀ s : Fin 39, (∑ c : Fin 2, f ⟨s.val * 2 + c.val, by omega⟩)
      = z s ⟨j.val % 2, by omega⟩ * between src dst s ⟨j.val / 2, by omega⟩ := by
    intro s
    rw [Finset.sum_eq_single (⟨j.val % 2, by omega⟩ : Fin 2)]
    · rw [hf]
      have e1 : (⟨(s.val * 2 + j.val % 2) / 2, by omega⟩ : Fin 39) = s := Fin.ext (by show (s.val * 2 + j.val % 2) / 2 = s.val; omega)
      have e2 : (⟨(s.val * 2 + j.val % 2) % 2, by omega⟩ : Fin 2) = ⟨j.val % 2, by omega⟩ := Fin.ext (by show (s.val * 2 + j.val % 2) % 2 = j.val % 2; omega)
      simp only [e1, e2]
      rw [if_pos (by omega), mul_one]
    · intro c _ hc
      rw [hf, if_neg, mul_zero, mul_zero]
      intro e
      refine hc (Fin.ext ?_)
      have e' : (s.val * 2 + c.val) % 2 = j.val % 2 := e
      show c.val = j.val % 2
      omega
    · intro h; exact absurd (Finset.mem_univ _) h
  refine (Finset.sum_congr rfl fun s _ => h1 s).trans ?_
  have h2 : ∀ s : Fin 39, z s ⟨j.val % 2, by omega⟩ * between src dst s ⟨j.val / 2, by omega⟩
      = ∑ e, z s ⟨j.val % 2, by omega⟩ * (((if s.val = (src e).val then (1 : EReal) else 0) * norm src dst e) *
          (if (⟨j.val / 2, by omega⟩ : Fin 39).val = (dst e).val then (1 : EReal) else 0)) := by
    intro s
    refine mul_sum _ _ (fun e => mul_nonneg (mul_nonneg ?_ (norm_nonneg _ _ _)) ?_) _ <;> split <;> simp
  rw [Finset.sum_congr rfl fun s _ => h2 s, Finset.sum_comm]
  refine Finset.sum_congr rfl fun e _ => ?_
  rw [Finset.sum_eq_single (src e)]
  · rw [if_pos rfl, one_mul]
    by_cases h : dst e = ⟨j.val / 2, by omega⟩
    · rw [if_pos (by rw [h]), if_pos h, mul_one]
    · rw [if_neg (fun q => h (Fin.ext q.symm)), if_neg h, mul_zero, mul_zero]
  · intro s _ hs
    rw [if_neg (fun q => hs (Fin.ext q)), zero_mul, zero_mul, mul_zero]
  · intro h; exact absurd (Finset.mem_univ _) h

/-- A sum over 312 columns against the weight rows of one node is the convolution's sum at that node. -/
theorem sum_columns (y : Fin 4 → Fin 39 → Fin 2 → EReal) (w : Fin 8 → EReal) (n : Fin 39) (f : Fin 312 → EReal)
    (hf : ∀ (k : Fin 4) (i : Fin 78), f ⟨k.val * 78 + i.val, by omega⟩ = y k ⟨i.val / 2, by omega⟩ ⟨i.val % 2, by omega⟩ *
      (w ⟨k.val * 2 + i.val % 2, by omega⟩ * (if i.val / 2 = n.val then (1 : EReal) else 0))) :
    ∑ i, f i = ∑ k : Fin 4, ∑ c : Fin 2, y k n c * w ⟨k.val * 2 + c.val, by omega⟩ := by
  rw [Fin.sum_univ_tiles 4 78 rfl]
  refine Finset.sum_congr rfl fun k _ => ?_
  rw [Fin.sum_univ_tiles 39 2 rfl, Finset.sum_eq_single n]
  · refine Finset.sum_congr rfl fun c _ => ?_
    rw [hf k ⟨n.val * 2 + c.val, by omega⟩]
    have e1 : (⟨(n.val * 2 + c.val) / 2, by omega⟩ : Fin 39) = n := Fin.ext (by show (n.val * 2 + c.val) / 2 = n.val; omega)
    have e2 : (⟨(n.val * 2 + c.val) % 2, by omega⟩ : Fin 2) = c := Fin.ext (by show (n.val * 2 + c.val) % 2 = _; omega)
    have e3 : (n.val * 2 + c.val) % 2 = c.val := by omega
    simp only [e1, e2, e3]
    rw [if_pos (by omega), mul_one]
  · intro s _ hs
    refine Finset.sum_eq_zero fun c _ => ?_
    rw [hf k ⟨s.val * 2 + c.val, by omega⟩, if_neg, mul_zero, mul_zero]
    intro e
    refine hs (Fin.ext ?_)
    have e' : (s.val * 2 + c.val) / 2 = n.val := e
    omega
  · intro h; exact absurd (Finset.mem_univ _) h

end Cert.KernelIdeal.Graph

end
-- ==== Proof.Network.lean ====
module
public import proofs.«01_k».proof.Proof.Graph

/-!
The network in plain sums over the extended reals: one neuron's membrane and spike over the time steps, the four layers, and the
mean of the output spikes. Both programs are shown to compute it.
-/

@[expose] public section

noncomputable section

namespace Cert.KernelIdeal.Network

open Idealize.ShloMosaic

/-- The part of a membrane kept from step to step, 0.2 as its float word. -/
def decay : EReal := Scalar.ofBits (F := Ideal) .f32 0x3E4CCCCD#32

/-- The firing threshold, a half. -/
def threshold : EReal := Scalar.ofBits (F := Ideal) .f32 0x3F000000#32

/-- A membrane after a step: the part kept where the last step did not spike, plus the input. -/
def membrane (m s x : EReal) : EReal := m * decay * (1 - s) + x

/-- The spike of a membrane. -/
def spike (m : EReal) : EReal := if threshold < m then 1 else 0

/-- Membrane and spike of one neuron after `t` steps of inputs `x 0, x 1, …`. -/
def neuron (x : ℕ → EReal) : ℕ → EReal × EReal
  | 0 => (0, 0)
  | t + 1 => (membrane (neuron x t).1 (neuron x t).2 (x t), spike (membrane (neuron x t).1 (neuron x t).2 (x t)))

/-- The number of spikes of one neuron in `t` steps. -/
def spikes (x : ℕ → EReal) : ℕ → EReal
  | 0 => 0
  | t + 1 => spikes x t + (neuron x (t + 1)).2

/-- What the network is given: the edges' ends, the features over the steps, weights and biases. -/
structure Net where
  src : Fin 286 → Fin 39
  dst : Fin 286 → Fin 39
  x : Fin 39 → Fin 2 → Fin 100 → EReal
  wc : Fin 8 → Fin 64 → EReal
  bc : Fin 64 → EReal
  w1 : Fin 128 → Fin 2496 → EReal
  b1 : Fin 128 → EReal
  w2 : Fin 256 → Fin 128 → EReal
  b2 : Fin 256 → EReal
  w3 : Fin 36 → Fin 256 → EReal
  b3 : Fin 36 → EReal

namespace Net

variable (a : Net)

/-- The features at step `t` (zero past the last). -/
def feat (t : ℕ) (n : Fin 39) (c : Fin 2) : EReal := if h : t < 100 then a.x n c ⟨t, h⟩ else 0

/-- The convolution layer's input at step `t`, at node `n` and channel `ch`. -/
def in0 (n : Fin 39) (ch : Fin 64) (t : ℕ) : EReal := Graph.conv a.src a.dst (a.feat t) a.wc a.bc n ch

/-- The convolution layer's spike at step `t`, at the neuron numbered `k` over nodes and channels. -/
def out0 (k : Fin 2496) (t : ℕ) : EReal :=
  (neuron (a.in0 ⟨k.val / 64, by omega⟩ ⟨k.val % 64, Nat.mod_lt _ (by decide)⟩) (t + 1)).2

/-- The first hidden layer's input. -/
def in1 (l : Fin 128) (t : ℕ) : EReal := (∑ k, a.out0 k t * a.w1 l k) + a.b1 l

/-- The second hidden layer's input. -/
def in2 (l : Fin 256) (t : ℕ) : EReal := (∑ k, (neuron (a.in1 k) (t + 1)).2 * a.w2 l k) + a.b2 l

/-- The output layer's input. -/
def in3 (l : Fin 36) (t : ℕ) : EReal := (∑ k, (neuron (a.in2 k) (t + 1)).2 * a.w3 l k) + a.b3 l

/-- The network's result: the mean over the hundred steps of an output's spikes. -/
def mean (l : Fin 36) : EReal := spikes (a.in3 l) 100 * ((100⁻¹ : ℝ) : EReal)

end Net

end Cert.KernelIdeal.Network

end
-- ==== Proof.Lif.lean ====
module
public import proofs.«01_k».proof.Proof.Gen.KernelIdeal
public import Idealize.ShloMosaic.Lib.WritesUnit
public import Idealize.ShloMosaic.Lib.Pipeline.ValueKit
public import Idealize.ShloMosaic.Lib.Pointwise

/-!
The leaky integrate-and-fire scan over the rows of a matrix, as a recursion on the number of rows passed, and the two
facts that tie it to a buffer: a row loaded is the matrix's row, and a row stored extends the rows already right.
-/

@[expose] public section

noncomputable section

namespace Cert.KernelIdeal.Lif

open Idealize.ShloMosaic

variable {F : FTy → Type} [FloatOps F]

/-- The membrane after one step: what is kept of it where the last step did not spike, plus the input. -/
def lifMem {s : Shape} (m sp x : FVec F s .f32) : FVec F s .f32 :=
  addf (mulf (mulf m (broadcast s (Scalar.ofBits .f32 0x3E4CCCCD#32)))
    (subf (broadcast s (Scalar.ofBits .f32 0x3F800000#32)) sp)) x

/-- The spike of a membrane: one where it exceeds a half, else zero. -/
def lifSpk {s : Shape} (m : FVec F s .f32) : FVec F s .f32 :=
  sitofp .f32 (extui 32 (cmpf .ogt m (broadcast s (Scalar.ofBits .f32 0x3F000000#32))) (by decide))

/-- One step of the scan on the pair of membrane and spike. -/
def lifStep {s : Shape} (x : FVec F s .f32) (p : FVec F s .f32 × FVec F s .f32) : FVec F s .f32 × FVec F s .f32 :=
  (lifMem p.1 p.2 x, lifSpk (lifMem p.1 p.2 x))

variable {N : ℕ}

/-- Row `t` of a matrix of 100 rows (zero past the last). -/
def rowOf (X : FVec F ⟨2, ![100, N]⟩ .f32) (t : ℕ) : FVec F ⟨2, ![1, N]⟩ .f32 :=
  fun i => if h : t < 100 then X (ix2 ⟨t, h⟩ (i 1)) else FloatOps.ofBits .f32 0#32

/-- Membrane and spike after the first `t` rows of `X`, from `init`. -/
def lifFrom (init : FVec F ⟨2, ![1, N]⟩ .f32 × FVec F ⟨2, ![1, N]⟩ .f32) (X : FVec F ⟨2, ![100, N]⟩ .f32) :
    ℕ → FVec F ⟨2, ![1, N]⟩ .f32 × FVec F ⟨2, ![1, N]⟩ .f32
  | 0 => init
  | t + 1 => lifStep (rowOf X t) (lifFrom init X t)

/-- The same with the running sum of the spikes as a third component. -/
def sumFrom (init : FVec F ⟨2, ![1, N]⟩ .f32 × FVec F ⟨2, ![1, N]⟩ .f32 × FVec F ⟨2, ![1, N]⟩ .f32)
    (X : FVec F ⟨2, ![100, N]⟩ .f32) :
    ℕ → FVec F ⟨2, ![1, N]⟩ .f32 × FVec F ⟨2, ![1, N]⟩ .f32 × FVec F ⟨2, ![1, N]⟩ .f32
  | 0 => init
  | t + 1 =>
    let p := sumFrom init X t
    let q := lifStep (rowOf X t) (p.1, p.2.1)
    (q.1, q.2, addf p.2.2 q.2)

/-- Membrane, spike and sum of spikes after all 100 rows. -/
@[irreducible] def sumAll (init : FVec F ⟨2, ![1, N]⟩ .f32 × FVec F ⟨2, ![1, N]⟩ .f32 × FVec F ⟨2, ![1, N]⟩ .f32)
    (X : FVec F ⟨2, ![100, N]⟩ .f32) :
    FVec F ⟨2, ![1, N]⟩ .f32 × FVec F ⟨2, ![1, N]⟩ .f32 × FVec F ⟨2, ![1, N]⟩ .f32 :=
  sumFrom init X 100

/-- The matrix of the spikes: row `t` is the spike after rows `0 … t`. -/
def spikesFrom (init : FVec F ⟨2, ![1, N]⟩ .f32 × FVec F ⟨2, ![1, N]⟩ .f32) (X : FVec F ⟨2, ![100, N]⟩ .f32) :
    FVec F ⟨2, ![100, N]⟩ .f32 :=
  fun i => (lifFrom init X ((i 0).val + 1)).2 (ix2 0 (i 1))

variable {sig : RefSig} {κ : Kind} {sp : Space}

/-- The first `n` rows of the buffer hold the scan's spikes. -/
def Rows (v : View sig κ sp ⟨2, ![100, N]⟩ .f32) (init : FVec F ⟨2, ![1, N]⟩ .f32 × FVec F ⟨2, ![1, N]⟩ .f32)
    (X : FVec F ⟨2, ![100, N]⟩ .f32) (f : v.ty.Contents (Elt F)) (n : ℕ) : Prop :=
  ∀ y : (⟨2, ![100, N]⟩ : Shape).Idx, (y 0).val < n → v.read (Elt F) f y = spikesFrom init X y

/-- Before the first row nothing is asked of the buffer. -/
theorem rows_zero (v : View sig κ sp ⟨2, ![100, N]⟩ .f32)
    (init : FVec F ⟨2, ![1, N]⟩ .f32 × FVec F ⟨2, ![1, N]⟩ .f32)
    (X : FVec F ⟨2, ![100, N]⟩ .f32) (f : v.ty.Contents (Elt F)) : Rows v init X f 0 :=
  fun _ h => absurd h (Nat.not_lt_zero _)

/-- The same statement by cases, so that before the first row it is true by computation alone. -/
def RowsTo (v : View sig κ sp ⟨2, ![100, N]⟩ .f32) (init : FVec F ⟨2, ![1, N]⟩ .f32 × FVec F ⟨2, ![1, N]⟩ .f32)
    (X : FVec F ⟨2, ![100, N]⟩ .f32) (f : v.ty.Contents (Elt F)) : ℕ → Prop
  | 0 => True
  | n + 1 => Rows v init X f (n + 1)

/-- The two statements agree. -/
theorem rowsTo_eq_true (v : View sig κ sp ⟨2, ![100, N]⟩ .f32)
    (init : FVec F ⟨2, ![1, N]⟩ .f32 × FVec F ⟨2, ![1, N]⟩ .f32)
    (X : FVec F ⟨2, ![100, N]⟩ .f32) (f : v.ty.Contents (Elt F)) (n : ℕ) :
    RowsTo v init X f n = True ↔ Rows v init X f n := by
  cases n with
  | zero => exact ⟨fun _ => rows_zero v init X f, fun _ => rfl⟩
  | succ n => exact ⟨of_eq_true, eq_true⟩

/-- With all 100 rows right the buffer reads as the matrix of the spikes. -/
theorem Rows.all {v : View sig κ sp ⟨2, ![100, N]⟩ .f32}
    {init : FVec F ⟨2, ![1, N]⟩ .f32 × FVec F ⟨2, ![1, N]⟩ .f32}
    {X : FVec F ⟨2, ![100, N]⟩ .f32} {f : v.ty.Contents (Elt F)} {n : ℕ} (h : Rows v init X f n) (hn : n = 100) :
    v.read (Elt F) f = spikesFrom init X :=
  funext fun y => h y (hn ▸ (y 0).isLt)

/-- A load of one whole row reads that row of the matrix. -/
theorem readAt_row (v : View sig κ sp ⟨2, ![100, N]⟩ .f32) (f : v.ty.Contents (Elt F)) {off : Fin 2 → ℕ}
    (inb : ∀ a : Fin 2, off a + (![1, N] : Fin 2 → ℕ) a ≤ (![100, N] : Fin 2 → ℕ) a) (t : ℕ) (ht : t < 100)
    (hoff : off = ![t, 0]) :
    View.readAt (Elt F) v (Rect.unit (s := ⟨2, ![100, N]⟩) off ![1, N] inb).toLoadRect f = rowOf (v.read (Elt F) f) t := by
  subst hoff
  funext x
  rw [View.readAt_eq_ld]
  unfold rowOf
  rw [dif_pos ht]
  refine View.ld_unit_apply_of _ _ _ _ _ _ (Fin.forall_fin_two.mpr ⟨?_, ?_⟩)
  · show t = t + (x 0).val
    have : (x 0).val < 1 := (x 0).isLt
    omega
  · show (x 1).val = 0 + (x 1).val
    omega

/-- Storing the next spike at the next row makes one more row right. -/
theorem Rows.push {v : View sig κ sp ⟨2, ![100, N]⟩ .f32}
    {init : FVec F ⟨2, ![1, N]⟩ .f32 × FVec F ⟨2, ![1, N]⟩ .f32}
    {X : FVec F ⟨2, ![100, N]⟩ .f32} {f : v.ty.Contents (Elt F)} {L : List (View.Piece (Elt F) ⟨2, ![100, N]⟩ .f32)} {t : ℕ}
    (h : Rows v init X (v.writes (Elt F) f L) t) {off : Fin 2 → ℕ}
    (inb : ∀ a : Fin 2, off a + (![1, N] : Fin 2 → ℕ) a ≤ (![100, N] : Fin 2 → ℕ) a)
    (hoff : off = ![t, 0]) (w : FVec F ⟨2, ![1, N]⟩ .f32) (hw : w = (lifFrom init X (t + 1)).2) :
    Rows v init X (v.writes (Elt F) f ((⟨Rect.unit (s := ⟨2, ![100, N]⟩) off ![1, N] inb, w⟩ :
      View.Piece (Elt F) ⟨2, ![100, N]⟩ .f32) :: L)) (t + 1) := by
  intro y hy
  by_cases hyt : (y 0).val < t
  · rw [View.read_writes_cons_rows_of_not_mem (W := 1) v f inb w L y hoff rfl (Or.inl hyt)]
    exact h y hyt
  · have e : (y 0).val = t := by omega
    rw [View.read_writes_cons_rows_of_mem v f inb w L y (ix2 0 (y 1)) hoff (by simpa using e) rfl, hw]
    unfold spikesFrom
    rw [e]

end Cert.KernelIdeal.Lif

end
-- ==== Proof.Block.lean ====
module
public import proofs.«01_k».proof.Proof.Gen.KernelIdeal.Skeleton
public import proofs.«01_k».proof.Proof.Lif

/-!
What the kernel computes from the twelve blocks it is given, stage by stage: the propagation matrix from the edges, the
convolution's rows, and the four scanned layers.
-/

@[expose] public section

set_option maxRecDepth 16384

noncomputable section

namespace Cert.KernelIdeal.Block

open Cert.KernelIdeal.Gen Cert.KernelIdeal.Lif
open Idealize.ShloMosaic

variable {F : FTy → Type} [FloatOps F] [Named F]

/-- The 78×78 propagation matrix, from the edges' sources and targets. -/
def propMat (x1 x2 : Vec F S1x286 .i32) (x3 : Vec F S286x1 .i32) : FVec F S78x78 .f32 :=
  k0_pay121 (k0_pay116 x1 x2 x3)
    (k0_pay118 (iota .tc S78x39 32 [0] iota_S78x39_d0_w32) (iota .tc S78x39 32 [1] iota_S78x39_d1_w32) 2#32 k0_pay117 0#32)
    (iota .tc S39x78 32 [0] iota_S39x78_d0_w32) k0_pay119 k0_pay120 1#32

/-- The inputs of 100 steps and their three propagations side by side. -/
def hops (x0 : Vec F S100x78 .f32) (x1 x2 : Vec F S1x286 .i32) (x3 : Vec F S286x1 .i32) : FVec F S100x312 .f32 :=
  k0_pay122 (propMat x1 x2 x3) x0

/-- The convolution's weight row of each of the 312 columns, repeated for the 39 nodes. -/
def tiled (x4 : Vec F S8x64 .f32) : FVec F S312x2496 .f32 :=
  k0_pay127 (iota .tc S312x8 32 [1] iota_S312x8_d1_w32) k0_pay123
    (Scalar.select (Scalar.cmpi .eq 2#32 0#32) 1#32 2#32) k0_pay124 k0_pay125 k0_pay126 x4

/-- The convolution's rows. -/
def conv (x0 : Vec F S100x78 .f32) (x1 x2 : Vec F S1x286 .i32) (x3 : Vec F S286x1 .i32) (x4 : Vec F S8x64 .f32)
    (x5 : Vec F S1x64 .f32) : FVec F S100x2496 .f32 :=
  k0_pay129 (hops x0 x1 x2 x3) (tiled x4) (iota .tc S312x2496 32 [1] iota_S312x2496_d1_w32)
    (Scalar.select (Scalar.cmpi .eq 39#32 0#32) 1#32 39#32) k0_pay128 0#32 x5

/-- The first hidden layer's input rows, from the convolution's. -/
def layer1 (C : FVec F S100x2496 .f32) (x6 : Vec F S128x2496 .f32) (x7 : Vec F S1x128 .f32) : FVec F S100x128 .f32 :=
  k0_pay134 (spikesFrom (k0_pay131, k0_pay132) (k0_pay130 C)) x6 x7

/-- The second hidden layer's input rows, from the first's. -/
def layer2 (H : FVec F S100x128 .f32) (x8 : Vec F S256x128 .f32) (x9 : Vec F S1x256 .f32) : FVec F S100x256 .f32 :=
  k0_pay138 (spikesFrom (k0_pay135, k0_pay136) H) x8 x9

/-- The output layer's input rows, from the second's. -/
def layer3 (H : FVec F S100x256 .f32) (x10 : Vec F S128x256 .f32) (x11 : Vec F S1x128 .f32) : FVec F S100x128 .f32 :=
  k0_pay143 (spikesFrom (k0_pay140, k0_pay141) (k0_pay139 H)) x10 x11

/-- The output block: the output layer's mean spikes. -/
def out (x0 : Vec F S100x78 .f32) (x1 x2 : Vec F S1x286 .i32) (x3 : Vec F S286x1 .i32) (x4 : Vec F S8x64 .f32)
    (x5 : Vec F S1x64 .f32) (x6 : Vec F S128x2496 .f32) (x7 : Vec F S1x128 .f32) (x8 : Vec F S256x128 .f32)
    (x9 : Vec F S1x256 .f32) (x10 : Vec F S128x256 .f32) (x11 : Vec F S1x128 .f32) : FVec F S1x128 .f32 :=
  k0_pay150 (sumAll (k0_pay144, k0_pay145, k0_pay146)
    (layer3 (layer2 (layer1 (conv x0 x1 x2 x3 x4 x5) x6 x7) x8 x9) x10 x11)).2.2

end Cert.KernelIdeal.Block

end
-- ==== Proof.Words.lean ====
module
public import Idealize.ShloMosaic.Lib.Pointwise
public import Idealize.ShloMosaic.PureOps

/-!
The integer words a one-hot matrix is built from: floor division and remainder of a position as the kernel writes them, and
the float a comparison of two positions becomes.
-/

@[expose] public section

set_option maxRecDepth 16384

noncomputable section

namespace Cert.KernelIdeal.Words

open Idealize.ShloMosaic

/-- Floor division of the word `x` by `d`, as written with the sign corrections. -/
def fdiv (x d : BitVec 32) : BitVec 32 :=
  Scalar.select
    (IntOp.andi
      (IntOp.cmpi .ne
        (IntOp.subi (BitVec.setWidth 32 (IntOp.cmpi .sgt x 0#32)) (BitVec.setWidth 32 (IntOp.cmpi .slt x 0#32)))
        (Scalar.subi (Scalar.extui (Scalar.cmpi .sgt d 0#32)) (Scalar.extui (Scalar.cmpi .slt d 0#32))))
      (IntOp.cmpi .ne (IntOp.remsi .vector x d) 0#32))
    (IntOp.subi (IntOp.divsi .vector x d) 1#32)
    (IntOp.divsi .vector x d)

/-- Floor remainder of the word `x` by `d`, as written with the guard against zero and the sign correction. -/
def fmod (x d : BitVec 32) : BitVec 32 :=
  Scalar.select
    (IntOp.andi
      (IntOp.xori
        (IntOp.cmpi .slt (IntOp.remsi .vector x (Scalar.select (Scalar.cmpi .eq d 0#32) 1#32 d)) 0#32)
        (Scalar.cmpi .slt (Scalar.select (Scalar.cmpi .eq d 0#32) 1#32 d) 0#32))
      (IntOp.cmpi .ne (IntOp.remsi .vector x (Scalar.select (Scalar.cmpi .eq d 0#32) 1#32 d)) 0#32))
    (IntOp.addi (IntOp.remsi .vector x (Scalar.select (Scalar.cmpi .eq d 0#32) 1#32 d))
      (Scalar.select (Scalar.cmpi .eq d 0#32) 1#32 d))
    (IntOp.remsi .vector x (Scalar.select (Scalar.cmpi .eq d 0#32) 1#32 d))

/-- Halving a position below 78. -/
theorem half78 : ∀ i : Fin 78, fdiv (BitVec.ofNat 32 i.val) 2#32 = BitVec.ofNat 32 (i.val / 2) := by decide +kernel

/-- The parity of a position below 78. -/
theorem parity78 : ∀ i : Fin 78, fmod (BitVec.ofNat 32 i.val) 2#32 = BitVec.ofNat 32 (i.val % 2) := by decide +kernel

/-- The weight row of a column below 312: twice its hop and its parity. -/
theorem row312 : ∀ i : Fin 312,
    IntOp.addi (IntOp.muli (fdiv (BitVec.ofNat 32 i.val) 78#32) 2#32) (fmod (BitVec.ofNat 32 i.val) 2#32)
      = BitVec.ofNat 32 (i.val / 78 * 2 + i.val % 2) := by decide +kernel

/-- The node of a column below 312. -/
theorem node312 : ∀ i : Fin 312, fmod (fdiv (BitVec.ofNat 32 i.val) 2#32) 39#32 = BitVec.ofNat 32 (i.val / 2 % 39) := by
  decide +kernel

/-- The node of a position below 2496. -/
theorem node2496 : ∀ i : Fin 2496, fdiv (BitVec.ofNat 32 i.val) 64#32 = BitVec.ofNat 32 (i.val / 64) := by decide +kernel

/-- A comparison of two positions as a float: one where they are equal, zero elsewhere. -/
theorem hot (a b : ℕ) (ha : a < 2 ^ 32) (hb : b < 2 ^ 32) :
    (FloatOps.sitofp .f32 (BitVec.setWidth 32 (IntOp.cmpi .eq (BitVec.ofNat 32 a) (BitVec.ofNat 32 b))) : Ideal .f32)
      = (if a = b then (1 : EReal) else 0) := by
  have e : BitVec.ofNat 32 a = BitVec.ofNat 32 b ↔ a = b := by
    constructor
    · intro e
      have := congrArg BitVec.toNat e
      simp only [BitVec.toNat_ofNat] at this
      omega
    · intro e; rw [e]
  show (((BitVec.setWidth 32 (BitVec.ofBool (BitVec.ofNat 32 a == BitVec.ofNat 32 b))).toInt : ℝ) : EReal) = _
  by_cases h : a = b
  · rw [if_pos h, h]; simp
  · rw [if_neg h, show (BitVec.ofNat 32 a == BitVec.ofNat 32 b) = false from beq_eq_false_iff_ne.2 fun q => h (e.1 q)]; simp

end Cert.KernelIdeal.Words

end
-- ==== Proof.KerConv.lean ====
module
public import proofs.«01_k».proof.Proof.Block
public import proofs.«01_k».proof.Proof.Graph
public import proofs.«01_k».proof.Proof.Words
public import Idealize.ShloMosaic.Lib.Pointwise
public import Idealize.ShloMosaic.Lib.Pipeline.Value

/-!
The kernel's convolution rows are the graph convolution: its one-hot products select edges' ends, its propagation matrix is
the weights between nodes spread over the two channels, and its tiled weights select a node's own features.
-/

@[expose] public section

set_option maxRecDepth 16384

noncomputable section

namespace Cert.KernelIdeal.Block

open Cert.KernelIdeal.Gen Cert.KernelIdeal.Graph Cert.KernelIdeal.Words
open Idealize.ShloMosaic

variable (src dst : Fin 286 → Fin 39)

/-- A one-hot sum over the nodes is the value at the one node. -/
theorem sum_hot (f : Fin 39 → EReal) (s : Fin 39) : ∑ d : Fin 39, (if d.val = s.val then (1 : EReal) else 0) * f d = f s := by
  rw [Finset.sum_eq_single s]
  · rw [if_pos rfl, one_mul]
  · intro d _ hd
    rw [if_neg fun q => hd (Fin.ext q), zero_mul]
  · intro h; exact absurd (Finset.mem_univ _) h

/-- The matrix of weights between nodes. -/
theorem between_apply (x1 x2 : Vec Ideal S1x286 .i32) (x3 : Vec Ideal S286x1 .i32)
    (h1 : ∀ e : Fin 286, x1 (ix2 (0 : Fin 1) e) = BitVec.ofNat 32 (src e).val)
    (h2 : ∀ e : Fin 286, x2 (ix2 (0 : Fin 1) e) = BitVec.ofNat 32 (dst e).val)
    (h3 : ∀ e : Fin 286, x3 (ix2 e (0 : Fin 1)) = BitVec.ofNat 32 (dst e).val) (s d : Fin 39) :
    k0_pay116 x1 x2 x3 (ix2 s d) = between src dst s d := by
  pointwise [k0_pay116]
  have q : ∀ a b : Fin 39, (FloatOps.sitofp .f32 (BitVec.setWidth 32 (IntOp.cmpi .eq (BitVec.ofNat 32 a.val) (BitVec.ofNat 32 b.val))) : Ideal .f32)
      = (if a.val = b.val then (1 : EReal) else 0) := fun a b => hot _ _ (by omega) (by omega)
  simp only [h1, h2, h3, q]
  refine Finset.sum_congr rfl fun e _ => ?_
  have r : ∀ s : Fin 39, (∑ d : Fin 39, (if d.val = s.val then (1 : EReal) else 0) * rt (deg dst d)) = rt (deg dst s) :=
    fun s => sum_hot (fun d => rt (deg dst d)) s
  exact congrArg₂ (fun u v => _ * (u * v) * _) (r (src e)) (r (dst e))

/-- Two one-hot sums, one on each side of a matrix, select its element. -/
theorem two_hots (v : Fin 39 → Fin 39 → EReal) (a b : Fin 39) :
    ∑ x : Fin 39, (∑ y : Fin 39, (if y.val = a.val then (1 : EReal) else 0) * v y x) * (if x.val = b.val then (1 : EReal) else 0) = v a b := by
  refine (Finset.sum_congr rfl fun x _ => ?_).trans (sum_hot (fun x => v a x) b)
  rw [sum_hot (fun y => v y x) a, mul_comm]

/-- The propagation matrix: the weight between the two positions' nodes where their channels agree, zero elsewhere. -/
theorem propMat_apply (x1 x2 : Vec Ideal S1x286 .i32) (x3 : Vec Ideal S286x1 .i32)
    (h1 : ∀ e : Fin 286, x1 (ix2 (0 : Fin 1) e) = BitVec.ofNat 32 (src e).val)
    (h2 : ∀ e : Fin 286, x2 (ix2 (0 : Fin 1) e) = BitVec.ofNat 32 (dst e).val)
    (h3 : ∀ e : Fin 286, x3 (ix2 e (0 : Fin 1)) = BitVec.ofNat 32 (dst e).val) (i j : Fin 78) :
    propMat x1 x2 x3 (ix2 i j) = between src dst ⟨i.val / 2, by omega⟩ ⟨j.val / 2, by omega⟩
      * (if i.val % 2 = j.val % 2 then (1 : EReal) else 0) := by
  unfold propMat
  generalize hv : k0_pay116 x1 x2 x3 = v
  pointwise [k0_pay121, k0_pay118, k0_pay117, k0_pay119, k0_pay120]
  have a := half78
  have b := parity78
  unfold fdiv at a
  unfold fmod at b
  simp only [a, b]
  have q1 : ∀ d : Fin 39, (FloatOps.sitofp .f32 (BitVec.setWidth 32 (IntOp.cmpi .eq (BitVec.ofNat 32 (i.val / 2)) (BitVec.ofNat 32 d.val))) : Ideal .f32)
      = (if d.val = (⟨i.val / 2, by omega⟩ : Fin 39).val then (1 : EReal) else 0) := fun d => by
    rw [hot _ _ (by omega) (by omega)]; exact if_congr eq_comm rfl rfl
  have q2 : ∀ d : Fin 39, (FloatOps.sitofp .f32 (BitVec.setWidth 32 (IntOp.cmpi .eq (BitVec.ofNat 32 d.val) (BitVec.ofNat 32 (j.val / 2)))) : Ideal .f32)
      = (if d.val = (⟨j.val / 2, by omega⟩ : Fin 39).val then (1 : EReal) else 0) := fun d => hot _ _ (by omega) (by omega)
  simp only [q1, q2]
  rw [hot _ _ (by omega) (by omega)]
  refine congrArg (· * _) ?_
  refine (two_hots (fun s d => v (ix2 s d)) ⟨i.val / 2, by omega⟩ ⟨j.val / 2, by omega⟩).trans ?_
  rw [← hv]
  exact between_apply src dst x1 x2 x3 h1 h2 h3 _ _

/-- Four pieces of 78 columns read at column `i` of piece `k`. -/
theorem ladder (Z : ℕ → Fin 39 → Fin 2 → EReal) (y0 y1 y2 y3 : Fin 78 → EReal)
    (h0 : ∀ i : Fin 78, y0 i = Z 0 ⟨i.val / 2, by omega⟩ ⟨i.val % 2, by omega⟩)
    (h1 : ∀ i : Fin 78, y1 i = Z 1 ⟨i.val / 2, by omega⟩ ⟨i.val % 2, by omega⟩)
    (h2 : ∀ i : Fin 78, y2 i = Z 2 ⟨i.val / 2, by omega⟩ ⟨i.val % 2, by omega⟩)
    (h3 : ∀ i : Fin 78, y3 i = Z 3 ⟨i.val / 2, by omega⟩ ⟨i.val % 2, by omega⟩) (k : Fin 4) (i : Fin 78) :
    (if h : k.val * 78 + i.val < 78 then y0 ⟨k.val * 78 + i.val, h⟩
      else if h' : k.val * 78 + i.val - 78 < 78 then y1 ⟨k.val * 78 + i.val - 78, h'⟩
      else if h'' : k.val * 78 + i.val - 78 - 78 < 78 then y2 ⟨k.val * 78 + i.val - 78 - 78, h''⟩
      else y3 ⟨k.val * 78 + i.val - 78 - 78 - 78, by omega⟩) = Z k.val ⟨i.val / 2, by omega⟩ ⟨i.val % 2, by omega⟩ := by
  have hi := i.isLt
  have e : ∀ (y : Fin 78 → EReal) (k' : ℕ) (hy : ∀ i : Fin 78, y i = Z k' ⟨i.val / 2, by omega⟩ ⟨i.val % 2, by omega⟩) (n : ℕ) (hn : n < 78),
      n = i.val → k' = k.val → y ⟨n, hn⟩ = Z k.val ⟨i.val / 2, by omega⟩ ⟨i.val % 2, by omega⟩ := by
    intro y k' hy n hn e1 e2
    subst e1 e2
    exact hy i
  by_cases a : k.val * 78 + i.val < 78
  · rw [dif_pos a]; exact e y0 0 h0 _ _ (by omega) (by omega)
  · rw [dif_neg a]
    by_cases b : k.val * 78 + i.val - 78 < 78
    · rw [dif_pos b]; exact e y1 1 h1 _ _ (by omega) (by omega)
    · rw [dif_neg b]
      by_cases c : k.val * 78 + i.val - 78 - 78 < 78
      · rw [dif_pos c]; exact e y2 2 h2 _ _ (by omega) (by omega)
      · rw [dif_neg c]; exact e y3 3 h3 _ _ (by omega) (by omega)

/-- Side by side: the features of step `t` after `k` propagations, for `k` from 0 to 3. -/
theorem hops_apply (x0 : Vec Ideal S100x78 .f32) (x1 x2 : Vec Ideal S1x286 .i32) (x3 : Vec Ideal S286x1 .i32)
    (h1 : ∀ e : Fin 286, x1 (ix2 (0 : Fin 1) e) = BitVec.ofNat 32 (src e).val)
    (h2 : ∀ e : Fin 286, x2 (ix2 (0 : Fin 1) e) = BitVec.ofNat 32 (dst e).val)
    (h3 : ∀ e : Fin 286, x3 (ix2 e (0 : Fin 1)) = BitVec.ofNat 32 (dst e).val) (t : Fin 100) (k : Fin 4) (i : Fin 78) :
    hops x0 x1 x2 x3 (ix2 t ⟨k.val * 78 + i.val, by omega⟩)
      = hopN src dst (fun n c => x0 (ix2 t ⟨n.val * 2 + c.val, by omega⟩)) k.val ⟨i.val / 2, by omega⟩ ⟨i.val % 2, by omega⟩ := by
  unfold hops
  have hm := propMat_apply src dst x1 x2 x3 h1 h2 h3
  generalize propMat x1 x2 x3 = m at hm
  pointwise [k0_pay122]
  simp only [hm]
  have s0 : ∀ i : Fin 78, x0 (ix2 t i) = hopN src dst (fun n c => x0 (ix2 t ⟨n.val * 2 + c.val, by omega⟩)) 0 ⟨i.val / 2, by omega⟩ ⟨i.val % 2, by omega⟩ := by
    intro i
    refine congrArg (fun a => x0 (ix2 t a)) (Fin.ext ?_)
    show i.val = i.val / 2 * 2 + i.val % 2
    omega
  have sS : ∀ (k : ℕ) (y : Fin 78 → EReal)
      (hy : ∀ i : Fin 78, y i = hopN src dst (fun n c => x0 (ix2 t ⟨n.val * 2 + c.val, by omega⟩)) k ⟨i.val / 2, by omega⟩ ⟨i.val % 2, by omega⟩) (j : Fin 78),
      (∑ i : Fin 78, y i * (between src dst ⟨i.val / 2, by omega⟩ ⟨j.val / 2, by omega⟩ * (if i.val % 2 = j.val % 2 then (1 : EReal) else 0)))
        = hopN src dst (fun n c => x0 (ix2 t ⟨n.val * 2 + c.val, by omega⟩)) (k + 1) ⟨j.val / 2, by omega⟩ ⟨j.val % 2, by omega⟩ :=
    fun k y hy j => sum_between src dst _ j _ fun i => by rw [hy]
  have s1 := sS 0 _ s0
  have s2 := sS 1 _ s1
  have s3 := sS 2 _ s2
  generalize hopN src dst (fun n c => x0 (ix2 t ⟨n.val * 2 + c.val, by omega⟩)) = Z at s0 s1 s2 s3 ⊢
  exact ladder Z _ _ _ _ s0 s1 s2 s3 k i

/-- The convolution's weights over the 2496 columns: each column's channel, of the row the 312 columns name. -/
theorem tiled_apply (x4 : Vec Ideal S8x64 .f32) (i : Fin 312) (j : Fin 2496) :
    tiled x4 (ix2 i j) = x4 (ix2 ⟨i.val / 78 * 2 + i.val % 2, by omega⟩ ⟨j.val % 64, by omega⟩) := by
  unfold tiled k0_pay127
  refine (concatenate_replicate_apply (α := EReal) (s₁ := S312x64) (t := S312x2496) 1 39 _ _ rfl (ix2 i j) (ix2 i ⟨j.val % 64, by omega⟩) rfl ?_).trans ?_
  · intro b hb
    match b with
    | ⟨0, _⟩ => rfl
    | ⟨1, _⟩ => exact absurd rfl hb
  have a := row312
  unfold fdiv fmod at a
  pointwise [k0_pay123, k0_pay124, k0_pay125, k0_pay126]
  simp only [a]
  have q : ∀ p : Fin 8, (FloatOps.sitofp .f32 (BitVec.setWidth 32 (IntOp.cmpi .eq (BitVec.ofNat 32 p.val) (BitVec.ofNat 32 (i.val / 78 * 2 + i.val % 2)))) : Ideal .f32)
      = (if p = (⟨i.val / 78 * 2 + i.val % 2, by omega⟩ : Fin 8) then (1 : EReal) else 0) := fun p => by
    rw [hot _ _ (by omega) (by omega)]; exact if_congr (Fin.ext_iff (a := p) (b := ⟨i.val / 78 * 2 + i.val % 2, by omega⟩)).symm rfl rfl
  simp only [q]
  simp

/-- The convolution's rows are the graph convolution of each step's features. -/
theorem conv_apply (x0 : Vec Ideal S100x78 .f32) (x1 x2 : Vec Ideal S1x286 .i32) (x3 : Vec Ideal S286x1 .i32) (x4 : Vec Ideal S8x64 .f32)
    (x5 : Vec Ideal S1x64 .f32)
    (h1 : ∀ e : Fin 286, x1 (ix2 (0 : Fin 1) e) = BitVec.ofNat 32 (src e).val)
    (h2 : ∀ e : Fin 286, x2 (ix2 (0 : Fin 1) e) = BitVec.ofNat 32 (dst e).val)
    (h3 : ∀ e : Fin 286, x3 (ix2 e (0 : Fin 1)) = BitVec.ofNat 32 (dst e).val) (t : Fin 100) (j : Fin 2496) :
    Block.conv x0 x1 x2 x3 x4 x5 (ix2 t j)
      = Graph.conv src dst (fun n c => x0 (ix2 t ⟨n.val * 2 + c.val, by omega⟩)) (fun p ch => x4 (ix2 p ch))
          (fun ch => x5 (ix2 (0 : Fin 1) ch)) ⟨j.val / 64, by omega⟩ ⟨j.val % 64, by omega⟩ := by
  unfold Block.conv Graph.conv
  have hh := hops_apply src dst x0 x1 x2 x3 h1 h2 h3 t
  have ht := fun i => tiled_apply x4 i j
  generalize hops x0 x1 x2 x3 = H at hh
  generalize tiled x4 = T at ht
  unfold k0_pay129
  have hb : ∀ (x : S1x64.Idx → EReal) (h : Shape.Concatenates ((List.replicate 39 (⟨S1x64, x⟩ : (s : Shape) × (s.Idx → EReal))).map (·.1)) S1x2496 1),
      concatenate S1x2496 1 (List.replicate 39 (⟨S1x64, x⟩ : (s : Shape) × (s.Idx → EReal))) h (ix2 (0 : Fin 1) j)
      = x (ix2 (0 : Fin 1) ⟨j.val % 64, by omega⟩) := fun x h =>
    concatenate_replicate_apply (α := EReal) (s₁ := S1x64) (t := S1x2496) 1 39 x h rfl (ix2 0 j) (ix2 0 ⟨j.val % 64, by omega⟩) rfl fun b hb => by
      match b with
      | ⟨0, _⟩ => rfl
      | ⟨1, _⟩ => exact absurd rfl hb
  have hx := hb (shapeCast S1x64 x5 shapeCasts_S1x64_S1x64) concatenates_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x2496_d1
  refine congrArg₂ (· + ·) ?_ ?_
  · have a := node312
    have b := node2496 j
    unfold fdiv fmod at a
    unfold fdiv at b
    pointwise [k0_pay128]
    simp only [a, b, ht]
    refine sum_columns (fun k n c => hopN src dst (fun n c => x0 (ix2 t ⟨n.val * 2 + c.val, by omega⟩)) k.val n c) (fun p => x4 (ix2 p ⟨j.val % 64, by omega⟩)) ⟨j.val / 64, by omega⟩ _ fun k i => ?_
    rw [hh, hot _ _ (by omega) (by omega)]
    refine congrArg (_ * ·) (congrArg₂ (· * ·) (congrArg (fun p => x4 (ix2 p _)) (Fin.ext ?_)) (if_congr ?_ rfl rfl))
    · show (k.val * 78 + i.val) / 78 * 2 + (k.val * 78 + i.val) % 2 = k.val * 2 + i.val % 2
      omega
    · show (k.val * 78 + i.val) / 2 % 39 = j.val / 64 ↔ i.val / 2 = j.val / 64
      omega
  · change broadcastTo S100x2496 (concatenate S1x2496 1 (List.replicate 39 (⟨S1x64, shapeCast S1x64 x5 shapeCasts_S1x64_S1x64⟩ : (s : Shape) × (s.Idx → EReal))) _) _ (ix2 t j) = _
    generalize concatenate S1x2496 1 (List.replicate 39 (⟨S1x64, shapeCast S1x64 x5 shapeCasts_S1x64_S1x64⟩ : (s : Shape) × (s.Idx → EReal))) _ = B at hx ⊢
    pointwise
    rw [hx]
    pointwise

end Cert.KernelIdeal.Block

end
-- ==== Proof.KerNet.lean ====
module
public import proofs.«01_k».proof.Proof.Network
public import proofs.«01_k».proof.Proof.KerConv
public import Idealize.ShloMosaic.Lib.Pointwise

/-!
The kernel's layers at an index: each scan over the rows is the neuron's recursion, each layer's rows are the network's sums, and
the output block's first 36 entries are the network's means.
-/

@[expose] public section

set_option maxRecDepth 16384

noncomputable section

namespace Cert.KernelIdeal.Block

open Cert.KernelIdeal.Gen Cert.KernelIdeal.Network Cert.KernelIdeal.Lif
open Idealize.ShloMosaic

variable {N : ℕ}

/-- One step of the scan, at an entry, is one step of the neuron. -/
theorem lifStep_at (x : FVec Ideal ⟨2, ![1, N]⟩ .f32) (p : FVec Ideal ⟨2, ![1, N]⟩ .f32 × FVec Ideal ⟨2, ![1, N]⟩ .f32)
    (i : (⟨2, ![1, N]⟩ : Shape).Idx) :
    (lifStep x p).1 i = membrane (p.1 i) (p.2 i) (x i) ∧ (lifStep x p).2 i = spike (membrane (p.1 i) (p.2 i) (x i)) := by
  have hm : (lifStep x p).1 i = membrane (p.1 i) (p.2 i) (x i) := by
    unfold lifStep lifMem membrane decay
    pointwise
  have hs : (lifStep x p).2 i = spike ((lifStep x p).1 i) := by
    unfold lifStep
    dsimp only
    generalize lifMem p.1 p.2 x = z
    unfold lifSpk spike threshold
    pointwise
    by_cases h : Ideal.ofBits FTy.f32 1056964608#32 < z i
    · rw [if_pos h, decide_eq_true h]
      show (((BitVec.setWidth 32 (1#1)).toInt : ℝ) : EReal) = 1
      rw [show (BitVec.setWidth 32 (1#1)).toInt = 1 from by decide]
      norm_num
    · rw [if_neg h, decide_eq_false h]
      show (((BitVec.setWidth 32 (0#1)).toInt : ℝ) : EReal) = 0
      rw [show (BitVec.setWidth 32 (0#1)).toInt = 0 from by decide]
      norm_num
  exact ⟨hm, hs.trans (congrArg spike hm)⟩

/-- The scan after `t` rows, at an entry, is the neuron after `t` steps. -/
theorem lifFrom_at (init : FVec Ideal ⟨2, ![1, N]⟩ .f32 × FVec Ideal ⟨2, ![1, N]⟩ .f32) (X : FVec Ideal ⟨2, ![100, N]⟩ .f32)
    (l : Fin N) (h1 : init.1 (ix2 (0 : Fin 1) l) = 0) (h2 : init.2 (ix2 (0 : Fin 1) l) = 0) (x : ℕ → EReal)
    (hx : ∀ t : Fin 100, X (ix2 t l) = x t.val) : ∀ t, t ≤ 100 →
      (lifFrom init X t).1 (ix2 (0 : Fin 1) l) = (neuron x t).1 ∧ (lifFrom init X t).2 (ix2 (0 : Fin 1) l) = (neuron x t).2
  | 0, _ => ⟨h1, h2⟩
  | t + 1, ht => by
    obtain ⟨e1, e2⟩ := lifFrom_at init X l h1 h2 x hx t (by omega)
    have hr : rowOf X t (ix2 (0 : Fin 1) l) = x t := by
      unfold rowOf
      rw [dif_pos (by omega : t < 100)]
      exact hx ⟨t, by omega⟩
    have h := lifStep_at (rowOf X t) (lifFrom init X t) (ix2 (0 : Fin 1) l)
    rw [e1, e2, hr] at h
    exact h

/-- The spikes' matrix at an entry. -/
theorem spikesFrom_at (init : FVec Ideal ⟨2, ![1, N]⟩ .f32 × FVec Ideal ⟨2, ![1, N]⟩ .f32) (X : FVec Ideal ⟨2, ![100, N]⟩ .f32)
    (l : Fin N) (h1 : init.1 (ix2 (0 : Fin 1) l) = 0) (h2 : init.2 (ix2 (0 : Fin 1) l) = 0) (x : ℕ → EReal)
    (hx : ∀ t : Fin 100, X (ix2 t l) = x t.val) (t : Fin 100) : spikesFrom init X (ix2 t l) = (neuron x (t.val + 1)).2 :=
  (lifFrom_at init X l h1 h2 x hx (t.val + 1) (by have := t.isLt; omega)).2

/-- The running sum of the scan, at an entry, is the neuron's number of spikes. -/
theorem sumFrom_at (init : FVec Ideal ⟨2, ![1, N]⟩ .f32 × FVec Ideal ⟨2, ![1, N]⟩ .f32 × FVec Ideal ⟨2, ![1, N]⟩ .f32)
    (X : FVec Ideal ⟨2, ![100, N]⟩ .f32) (l : Fin N) (h1 : init.1 (ix2 (0 : Fin 1) l) = 0)
    (h2 : init.2.1 (ix2 (0 : Fin 1) l) = 0) (h3 : init.2.2 (ix2 (0 : Fin 1) l) = 0) (x : ℕ → EReal)
    (hx : ∀ t : Fin 100, X (ix2 t l) = x t.val) : ∀ t, t ≤ 100 →
      (sumFrom init X t).1 (ix2 (0 : Fin 1) l) = (neuron x t).1 ∧ (sumFrom init X t).2.1 (ix2 (0 : Fin 1) l) = (neuron x t).2
        ∧ (sumFrom init X t).2.2 (ix2 (0 : Fin 1) l) = spikes x t
  | 0, _ => ⟨h1, h2, h3⟩
  | t + 1, ht => by
    obtain ⟨e1, e2, e3⟩ := sumFrom_at init X l h1 h2 h3 x hx t (by omega)
    have hr : rowOf X t (ix2 (0 : Fin 1) l) = x t := by
      unfold rowOf
      rw [dif_pos (by omega : t < 100)]
      exact hx ⟨t, by omega⟩
    have h := lifStep_at (rowOf X t) ((sumFrom init X t).1, (sumFrom init X t).2.1) (ix2 (0 : Fin 1) l)
    dsimp only at h
    rw [e1, e2, hr] at h
    refine ⟨h.1, h.2, ?_⟩
    show (sumFrom init X t).2.2 (ix2 (0 : Fin 1) l) + _ = _
    rw [e3]
    exact congrArg _ h.2

/-- The first hidden layer's rows. -/
theorem layer1_at (C : FVec Ideal S100x2496 .f32) (x6 : Vec Ideal S128x2496 .f32) (x7 : Vec Ideal S1x128 .f32)
    (x : Fin 2496 → ℕ → EReal) (hx : ∀ (t : Fin 100) k, C (ix2 t k) = x k t.val) (t : Fin 100) (l : Fin 128) :
    layer1 C x6 x7 (ix2 t l) = (∑ k, (neuron (x k) (t.val + 1)).2 * x6 (ix2 l k)) + x7 (ix2 (0 : Fin 1) l) := by
  have h : ∀ k : Fin 2496, spikesFrom (k0_pay131, k0_pay132) (k0_pay130 C) (ix2 t k) = (neuron (x k) (t.val + 1)).2 := fun k =>
    spikesFrom_at _ _ k (by pointwise [k0_pay131]) (by pointwise [k0_pay132]) (x k)
      (fun t => by rw [← hx]; pointwise [k0_pay130]) t
  unfold layer1
  generalize spikesFrom (k0_pay131, k0_pay132) (k0_pay130 C) = S at h ⊢
  simp only [← h]
  pointwise [k0_pay134]

/-- The second hidden layer's rows. -/
theorem layer2_at (H : FVec Ideal S100x128 .f32) (x8 : Vec Ideal S256x128 .f32) (x9 : Vec Ideal S1x256 .f32)
    (x : Fin 128 → ℕ → EReal) (hx : ∀ (t : Fin 100) k, H (ix2 t k) = x k t.val) (t : Fin 100) (l : Fin 256) :
    layer2 H x8 x9 (ix2 t l) = (∑ k, (neuron (x k) (t.val + 1)).2 * x8 (ix2 l k)) + x9 (ix2 (0 : Fin 1) l) := by
  have h : ∀ k : Fin 128, spikesFrom (k0_pay135, k0_pay136) H (ix2 t k) = (neuron (x k) (t.val + 1)).2 := fun k =>
    spikesFrom_at _ _ k (by pointwise [k0_pay135]) (by pointwise [k0_pay136]) (x k) (fun t => hx t k) t
  unfold layer2
  generalize spikesFrom (k0_pay135, k0_pay136) H = S at h ⊢
  simp only [← h]
  pointwise [k0_pay138]

/-- The output layer's rows. -/
theorem layer3_at (H : FVec Ideal S100x256 .f32) (x10 : Vec Ideal S128x256 .f32) (x11 : Vec Ideal S1x128 .f32)
    (x : Fin 256 → ℕ → EReal) (hx : ∀ (t : Fin 100) k, H (ix2 t k) = x k t.val) (t : Fin 100) (l : Fin 128) :
    layer3 H x10 x11 (ix2 t l) = (∑ k, (neuron (x k) (t.val + 1)).2 * x10 (ix2 l k)) + x11 (ix2 (0 : Fin 1) l) := by
  have h : ∀ k : Fin 256, spikesFrom (k0_pay140, k0_pay141) (k0_pay139 H) (ix2 t k) = (neuron (x k) (t.val + 1)).2 := fun k =>
    spikesFrom_at _ _ k (by pointwise [k0_pay140]) (by pointwise [k0_pay141]) (x k)
      (fun t => by rw [← hx]; pointwise [k0_pay139]) t
  unfold layer3
  generalize spikesFrom (k0_pay140, k0_pay141) (k0_pay139 H) = S at h ⊢
  simp only [← h]
  pointwise [k0_pay143]

/-- The output block's entry: the mean of the spikes. -/
theorem mean_at (X : FVec Ideal S100x128 .f32) (l : Fin 128) (x : ℕ → EReal) (hx : ∀ t : Fin 100, X (ix2 t l) = x t.val) :
    k0_pay150 (sumAll (k0_pay144, k0_pay145, k0_pay146) X).2.2 (ix2 (0 : Fin 1) l) = spikes x 100 * ((100⁻¹ : ℝ) : EReal) := by
  have h : (sumAll (k0_pay144, k0_pay145, k0_pay146) X).2.2 (ix2 (0 : Fin 1) l) = spikes x 100 := by
    unfold sumAll
    exact (sumFrom_at _ X l (by pointwise [k0_pay144]) (by pointwise [k0_pay145]) (by pointwise [k0_pay146]) x hx 100 le_rfl).2.2
  generalize (sumAll (k0_pay144, k0_pay145, k0_pay146) X).2.2 = z at h ⊢
  rw [← h]
  show z (ix2 (0 : Fin 1) l) * Named.named κ "inv_t" 0x3C23D70A#32 = _
  rw [IdealRules.named_const.ideal_named_scalar _ _ _ _ rfl]

/-- The output block's entries below 36 are the network's means, when the blocks hold what the network is given. -/
theorem out_at (a : Net) (x0 : Vec Ideal S100x78 .f32) (x1 x2 : Vec Ideal S1x286 .i32) (x3 : Vec Ideal S286x1 .i32)
    (x4 : Vec Ideal S8x64 .f32) (x5 : Vec Ideal S1x64 .f32) (x6 : Vec Ideal S128x2496 .f32) (x7 : Vec Ideal S1x128 .f32)
    (x8 : Vec Ideal S256x128 .f32) (x9 : Vec Ideal S1x256 .f32) (x10 : Vec Ideal S128x256 .f32) (x11 : Vec Ideal S1x128 .f32)
    (h0 : ∀ (t : Fin 100) (n : Fin 39) (c : Fin 2), x0 (ix2 t ⟨n.val * 2 + c.val, by omega⟩) = a.x n c t)
    (h1 : ∀ e, x1 (ix2 (0 : Fin 1) e) = BitVec.ofNat 32 (a.src e).val)
    (h2 : ∀ e, x2 (ix2 (0 : Fin 1) e) = BitVec.ofNat 32 (a.dst e).val)
    (h3 : ∀ e, x3 (ix2 e (0 : Fin 1)) = BitVec.ofNat 32 (a.dst e).val)
    (h4 : ∀ p ch, x4 (ix2 p ch) = a.wc p ch) (h5 : ∀ ch, x5 (ix2 (0 : Fin 1) ch) = a.bc ch)
    (h6 : ∀ l k, x6 (ix2 l k) = a.w1 l k) (h7 : ∀ l, x7 (ix2 (0 : Fin 1) l) = a.b1 l)
    (h8 : ∀ l k, x8 (ix2 l k) = a.w2 l k) (h9 : ∀ l, x9 (ix2 (0 : Fin 1) l) = a.b2 l) (l : Fin 36)
    (h10 : ∀ k, x10 (ix2 ⟨l.val, by omega⟩ k) = a.w3 l k) (h11 : x11 (ix2 (0 : Fin 1) ⟨l.val, by omega⟩) = a.b3 l) :
    out x0 x1 x2 x3 x4 x5 x6 x7 x8 x9 x10 x11 (ix2 (0 : Fin 1) ⟨l.val, by omega⟩) = a.mean l := by
  have c0 : ∀ (t : Fin 100) (k : Fin 2496), conv x0 x1 x2 x3 x4 x5 (ix2 t k)
      = a.in0 ⟨k.val / 64, by omega⟩ ⟨k.val % 64, Nat.mod_lt _ (by decide)⟩ t.val := by
    intro t k
    rw [conv_apply a.src a.dst x0 x1 x2 x3 x4 x5 h1 h2 h3 t k]
    have e : a.feat t.val = fun n c => a.x n c t := by
      funext n c
      exact dif_pos t.isLt
    unfold Net.in0
    rw [e]
    simp only [h0, h4, h5]
  have c1 := layer1_at _ x6 x7 (fun k => a.in0 ⟨k.val / 64, by omega⟩ ⟨k.val % 64, Nat.mod_lt _ (by decide)⟩) c0
  simp only [h6, h7] at c1
  have c2 := layer2_at _ x8 x9 a.in1 c1
  simp only [h8, h9] at c2
  have c3 := layer3_at _ x10 x11 a.in2 c2
  refine mean_at _ _ (a.in3 l) fun t => (c3 t _).trans ?_
  simp only [h10, h11]
  rfl

end Cert.KernelIdeal.Block

end
-- ==== Proof.RefOps.lean ====
module
public import proofs.«01_k».proof.Proof.Graph
public import proofs.«01_k».proof.Proof.Gen.ReferenceIdeal.Step
public import Idealize.ShloMosaic.Lib.Pointwise
public import Idealize.ShloMosaic.Lib.Routing.Ops
public import Idealize.ShloMosaic.Lib.Routing.OpsPair
public import Idealize.ShloMosaic.Lib.Routing.OpsSet

/-!
The reference's indexed operations, each at an index: an edge's end as an index word, where a sum over edges puts an
edge, and the two sums over the edges.
-/

@[expose] public section

set_option maxRecDepth 16384

noncomputable section

namespace Cert.ReferenceIdeal.Read

open Cert.ReferenceIdeal.Gen Cert.ReferenceIdeal.Step
open Idealize.ShloMosaic Idealize.ShloMosaic.StableHlo

/-- A node's word is not negative, so the index taken is the word itself. -/
theorem word_kept (k : Fin 39) :
    Scalar.select (IntOp.cmpi .slt (BitVec.ofNat 32 k.val) 0#32) (IntOp.addi (BitVec.ofNat 32 k.val) 39#32) (BitVec.ofNat 32 k.val)
      = BitVec.ofNat 32 k.val :=
  Routing.wrap_of_lt _ _ (by rw [BitVec.toNat_ofNat]; have := k.isLt; omega)

/-- The word of a node, read as a number. -/
theorem word_int (k : Fin 39) : (BitVec.ofNat 32 k.val).toInt = (k.val : Int) :=
  StableHlo.Predicate.toInt_ofNat_small _ (by have := k.isLt; omega)

/-- The column of index words made from a row of node words. -/
theorem column (x : IVec S286 32) (k : Fin 286 → Fin 39) (h : ∀ e, x (ix1 e) = BitVec.ofNat 32 (k e).val) (e : Fin 286) :
    broadcastInDim S286x1 ![0] bcast_S286_S286x1_0
      (select (cmpi .slt x (broadcastInDim S286 ![] bcast_S_S286 (constantI S_ 32 0#32)))
        (addi x (broadcastInDim S286 ![] bcast_S_S286 (constantI S_ 32 39#32))) x) (ix2 e (0 : Fin 1))
      = BitVec.ofNat 32 (k e).val := by
  have := word_kept (k e)
  pointwise
  rw [h]
  exact this

/-- An edge's unit lands at the node its index word names. -/
theorem lands_node (idx : IVec S286x1 32) (k : Fin 286 → Fin 39)
    (h : ∀ e, idx (ix2 e (0 : Fin 1)) = BitVec.ofNat 32 (k e).val) (e : Fin 286) (n : Fin 39) :
    scatter_S39_S286x1_S286_n_0_0_1.resultIdx? (ix1 e) idx = some (ix1 n) ↔ n.val = (k e).val := by
  have s0 : scatter_S39_S286x1_S286_n_0_0_1.start (ix1 e) idx 0 = ((k e).val : Int) := by
    unfold ScatterDims.start
    rw [dif_pos (by decide)]
    rw [← word_int (k e), ← h e]
    refine congrArg (fun i => (idx i).toInt) (funext fun a => Fin.ext ?_)
    match a with
    | ⟨0, _⟩ => rfl
    | ⟨1, _⟩ => rfl
  have w0 : scatter_S39_S286x1_S286_n_0_0_1.window (ix1 e) 0 = 0 := rfl
  refine Iff.trans (Routing.resultIdx?_ix1 (N := 39) _ (ix1 e) idx n) ?_
  rw [s0, w0]
  omega

/-- An edge's message lands in the row of the node its index word names, channel by channel. -/
theorem lands_message (idx : IVec S286x1 32) (k : Fin 286 → Fin 39)
    (h : ∀ e, idx (ix2 e (0 : Fin 1)) = BitVec.ofNat 32 (k e).val) (e : Fin 286) (b c : Fin 2) (n : Fin 39) :
    scatter_S39x2_S286x1_S286x2_1_0_0_1.resultIdx? (ix2 e b) idx = some (ix2 n c) ↔ k e = n ∧ b = c := by
  have s0 : scatter_S39x2_S286x1_S286x2_1_0_0_1.start (ix2 e b) idx 0 = ((k e).val : Int) := by
    unfold ScatterDims.start
    rw [dif_pos (by decide)]
    rw [← word_int (k e), ← h e]
    refine congrArg (fun i => (idx i).toInt) (funext fun a => Fin.ext ?_)
    match a with
    | ⟨0, _⟩ => rfl
    | ⟨1, _⟩ => rfl
  have s1 : scatter_S39x2_S286x1_S286x2_1_0_0_1.start (ix2 e b) idx 1 = 0 := by
    unfold ScatterDims.start
    rw [dif_neg (by decide)]
  have w0 : scatter_S39x2_S286x1_S286x2_1_0_0_1.window (ix2 e b) 0 = 0 := rfl
  have w1 : scatter_S39x2_S286x1_S286x2_1_0_0_1.window (ix2 e b) 1 = b.val := rfl
  refine Iff.trans (Routing.resultIdx?_ix2 (R := 39) (C := 2) _ (ix2 e b) idx n c) ?_
  rw [s0, s1, w0, w1, Fin.ext_iff, Fin.ext_iff]
  omega

/-- A one-axis index is `ix1` of its entry. -/
theorem ix1_eta (j : S286.Idx) : j = ix1 (j 0) := funext fun a => by
  obtain rfl : a = 0 := Subsingleton.elim _ _
  rfl

/-- Summing ones over the edges counts, at each node, the edges whose index word names it. -/
theorem sum_nodes (v : FVec Ideal S39 .f32) (idx : IVec S286x1 32) (u : FVec Ideal S286 .f32) (k : Fin 286 → Fin 39)
    (h : ∀ e, idx (ix2 e (0 : Fin 1)) = BitVec.ofNat 32 (k e).val) (hv : ∀ i, v i = 0) (hu : ∀ i, u i = 1) (n : Fin 39) :
    Host.scatterAdd scatter_S39_S286x1_S286_n_0_0_1 v idx u (ix1 n) = Cert.KernelIdeal.Graph.deg k n := by
  show v (ix1 n) + ∑ j ∈ Finset.univ.filter (fun j => scatter_S39_S286x1_S286_n_0_0_1.resultIdx? j idx = some (ix1 n)), u j = _
  rw [hv, zero_add, Finset.sum_filter]
  unfold Cert.KernelIdeal.Graph.deg
  refine (Finset.sum_bij' (fun e _ => (ix1 e : S286.Idx)) (fun j _ => j 0) (fun _ _ => Finset.mem_univ _)
    (fun _ _ => Finset.mem_univ _) (fun _ _ => rfl) (fun j _ => (ix1_eta j).symm) (fun e _ => ?_)).symm
  rw [hu]
  exact if_congr (lands_node idx k h e n).symm rfl rfl

/-- Summing messages over the edges gives each node the messages of the edges whose index word names it. -/
theorem sum_messages (v : FVec Ideal S39x2 .f32) (idx : IVec S286x1 32) (u : FVec Ideal S286x2 .f32) (k : Fin 286 → Fin 39)
    (h : ∀ e, idx (ix2 e (0 : Fin 1)) = BitVec.ofNat 32 (k e).val) (hv : ∀ i, v i = 0) (n : Fin 39) (c : Fin 2) :
    Host.scatterAdd scatter_S39x2_S286x1_S286x2_1_0_0_1 v idx u (ix2 n c) = ∑ e : Fin 286, if k e = n then u (ix2 e c) else 0 := by
  show v (ix2 n c) + ∑ j ∈ Finset.univ.filter (fun j => scatter_S39x2_S286x1_S286x2_1_0_0_1.resultIdx? j idx = some (ix2 n c)), u j = _
  rw [hv, zero_add, ← Finset.sum_filter]
  refine (Finset.sum_bij' (fun e _ => (ix2 e c : S286x2.Idx)) (fun j _ => (j 0 : Fin 286)) (fun e he => ?_) (fun j hj => ?_)
    (fun _ _ => rfl) (fun j hj => ?_) (fun e _ => rfl)).symm
  · exact Finset.mem_filter.2 ⟨Finset.mem_univ _, (lands_message idx k h e c c n).2 ⟨(Finset.mem_filter.1 he).2, rfl⟩⟩
  · obtain ⟨e, b, rfl⟩ : ∃ (e : Fin 286) (b : Fin 2), j = ix2 e b := ⟨j 0, j 1, eq_ix2 j⟩
    exact Finset.mem_filter.2 ⟨Finset.mem_univ _, ((lands_message idx k h e b c n).1 (Finset.mem_filter.1 hj).2).1⟩
  · obtain ⟨e, b, rfl⟩ : ∃ (e : Fin 286) (b : Fin 2), j = ix2 e b := ⟨j 0, j 1, eq_ix2 j⟩
    rw [← ((lands_message idx k h e b c n).1 (Finset.mem_filter.1 hj).2).2]
    rfl

end Cert.ReferenceIdeal.Read
-- ==== Proof.RefConv.lean ====
module
public import proofs.«01_k».proof.Proof.RefOps
public import Idealize.ShloMosaic.Lib.Routing.OpsSet

/-!
The reference's convolution of one time step: the features read at the step, the edges' weights, the three propagations and the
product with the weights, at a node and a channel.
-/

@[expose] public section

set_option maxRecDepth 16384

noncomputable section

namespace Cert.ReferenceIdeal.Read

open Cert.ReferenceIdeal.Gen Cert.ReferenceIdeal.Step
open Cert.KernelIdeal.Graph (deg rt norm hop hopN)
open Idealize.ShloMosaic Idealize.ShloMosaic.StableHlo

/-- The time step's slice starts at the step, for each of the hundred steps. -/
theorem start_step : ∀ k : Fin 100,
    (min (max (Scalar.select (IntOp.cmpi .slt (BitVec.ofNat 32 k.val) 0#32) (IntOp.addi (BitVec.ofNat 32 k.val) 100#32)
      (BitVec.ofNat 32 k.val)).toInt 0) ((100 - 1 : Nat) : Int)).toNat = k.val := by decide

/-- The features read at time step `j`. -/
theorem b11_at (j : Fin 100) (s : State Ideal) (n : Fin 39) (c : Fin 2) : b11 j.val s (ix2 n c) = s.main_v9_0 (ix3 n c j) := by
  have h : ∀ (n : Fin 39) (c : Fin 2), b10 j.val s (ix3 n c (0 : Fin 1)) = s.main_v9_0 (ix3 n c j) := by
    intro n c
    unfold b10 Host.dynamicSlice
    refine congrArg s.main_v9_0 (funext fun a => Fin.ext ?_)
    match a with
    | ⟨0, _⟩ => exact Nat.zero_add _
    | ⟨1, _⟩ => exact Nat.zero_add _
    | ⟨2, _⟩ => exact start_step j
  unfold b11
  generalize b10 j.val s = z at h ⊢
  rw [← h n c]
  pointwise

variable (j : ℕ) (s : State Ideal) (src dst : Fin 286 → Fin 39)
  (hs : ∀ e, s.main_v9_1 (ix2 (0 : Fin 2) e) = BitVec.ofNat 32 (src e).val)
  (hd : ∀ e, s.main_v9_1 (ix2 (1 : Fin 2) e) = BitVec.ofNat 32 (dst e).val)

include hs in
/-- The row of the edges' sources. -/
theorem b20_at (e : Fin 286) : b20 j s (ix1 e) = BitVec.ofNat 32 (src e).val := by
  rw [← hs e]
  unfold b20 b19
  generalize s.main_v9_1 = z
  pointwise

include hd in
/-- The row of the edges' targets. -/
theorem b22_at (e : Fin 286) : b22 j s (ix1 e) = BitVec.ofNat 32 (dst e).val := by
  rw [← hd e]
  unfold b22 b21
  generalize s.main_v9_1 = z
  pointwise

include hd in
/-- The degrees. -/
theorem b35_at (n : Fin 39) : b35 j s (ix1 n) = deg dst n := by
  unfold b35
  refine sum_nodes _ _ _ dst ?_ ?_ ?_ n
  · exact column _ _ (b22_at j s dst hd)
  · intro i
    obtain ⟨a, rfl⟩ : ∃ a : Fin 39, i = ix1 a := ⟨i 0, funext fun a => by obtain rfl : a = 0 := Subsingleton.elim _ _; rfl⟩
    pointwise [b26, b25]
  · intro i
    rw [ix1_eta i]
    pointwise [b24, b23]

include hd in
/-- One over the square roots of the degrees. -/
theorem b46_at (n : Fin 39) : b46 j s (ix1 n) = rt (deg dst n) := by
  have h := b35_at j s dst hd n
  unfold b46 b38 b42 b39
  generalize b35 j s = z at h ⊢
  rw [← h]
  unfold rt
  pointwise [b45, b44, b43, b41, b40, b37, b36]

include hs hd in
/-- The edges' weights. -/
theorem b65_at (e : Fin 286) : b65 j s (ix1 e) = norm src dst e := by
  have h1 : b55 j s (ix1 e) = b46 j s (ix1 (src e)) :=
    Routing.gather_take1 _ rfl rfl rfl rfl _ _ e (src e) (column _ _ (b20_at j s src hs) e) (by decide)
  have h2 : b64 j s (ix1 e) = b46 j s (ix1 (dst e)) :=
    Routing.gather_take1 _ rfl rfl rfl rfl _ _ e (dst e) (column _ _ (b22_at j s dst hd) e) (by decide)
  show b55 j s (ix1 e) * b64 j s (ix1 e) = _
  rw [h1, h2, b46_at j s dst hd, b46_at j s dst hd]
  rfl

/-- Spreading the edges' weights over the channels. -/
theorem spread (w : FVec Ideal S286 .f32) (e : Fin 286) (c : Fin 2) :
    broadcastInDim S286x2 ![0, 1] bcast_S286x1_S286x2_0_1 (broadcastInDim S286x1 ![0] bcast_S286_S286x1_0 w) (ix2 e c) = w (ix1 e) := by
  pointwise

/-- A matrix of zeros. -/
theorem zeros (i : S39x2.Idx) : broadcastInDim S39x2 ![] bcast_S_S39x2 (constant (F := Ideal) S_ .f32 0x00000000#32) i = 0 := by
  obtain ⟨a, b, rfl⟩ : ∃ (a : Fin 39) (b : Fin 2), i = ix2 a b := ⟨i 0, i 1, eq_ix2 i⟩
  pointwise

/-- One propagation as the reference writes it. -/
theorem propagate (z v : FVec Ideal S39x2 .f32) (i1 i2 : IVec S286x1 32) (w : FVec Ideal S286 .f32) (hv : ∀ i, v i = 0)
    (h1 : ∀ e, i1 (ix2 e (0 : Fin 1)) = BitVec.ofNat 32 (src e).val) (h2 : ∀ e, i2 (ix2 e (0 : Fin 1)) = BitVec.ofNat 32 (dst e).val)
    (hw : ∀ e, w (ix1 e) = norm src dst e) (f : Fin 39 → Fin 2 → EReal) (hz : ∀ n c, z (ix2 n c) = f n c) (n : Fin 39) (c : Fin 2) :
    Host.scatterAdd scatter_S39x2_S286x1_S286x2_1_0_0_1 v i2
      (mulf (Host.gather gather_S39x2_S286x1_S286x2_1_0_n_n_0_1_12 z i1)
        (broadcastInDim S286x2 ![0, 1] bcast_S286x1_S286x2_0_1 (broadcastInDim S286x1 ![0] bcast_S286_S286x1_0 w))) (ix2 n c)
      = hop src dst f n c := by
  rw [sum_messages _ _ _ dst h2 hv]
  unfold hop
  refine Finset.sum_congr rfl fun e _ => if_congr Iff.rfl ?_ rfl
  have hg : Host.gather gather_S39x2_S286x1_S286x2_1_0_n_n_0_1_12 z i1 (ix2 e c) = z (ix2 (src e) c) :=
    Routing.gather_row _ rfl rfl rfl rfl rfl z i1 e c (src e) (h1 e) (by decide)
  show Host.gather gather_S39x2_S286x1_S286x2_1_0_n_n_0_1_12 z i1 (ix2 e c) * _ = _
  rw [hg, hz, spread, hw]

variable (z : Fin 39 → Fin 2 → EReal) (hz : ∀ n c, b11 j s (ix2 n c) = z n c)

include hs hd hz in
/-- The first propagation. -/
theorem b88_at (n : Fin 39) (c : Fin 2) : b88 j s (ix2 n c) = hopN src dst z 1 n c :=
  propagate src dst _ _ _ _ _ zeros (column _ _ (b20_at j s src hs)) (column _ _ (b22_at j s dst hd)) (b65_at j s src dst hs hd) z hz n c

include hs hd hz in
/-- The second propagation. -/
theorem b111_at (n : Fin 39) (c : Fin 2) : b111 j s (ix2 n c) = hopN src dst z 2 n c :=
  propagate src dst _ _ _ _ _ zeros (column _ _ (b20_at j s src hs)) (column _ _ (b22_at j s dst hd)) (b65_at j s src dst hs hd) _
    (b88_at j s src dst hs hd z hz) n c

include hs hd hz in
/-- The third propagation. -/
theorem b134_at (n : Fin 39) (c : Fin 2) : b134 j s (ix2 n c) = hopN src dst z 3 n c :=
  propagate src dst _ _ _ _ _ zeros (column _ _ (b20_at j s src hs)) (column _ _ (b22_at j s dst hd)) (b65_at j s src dst hs hd) _
    (b111_at j s src dst hs hd z hz) n c

include hs hd hz in
/-- The reference's convolution at a node and a channel. -/
theorem b139_at (n : Fin 39) (ch : Fin 64) :
    b139 j s (ix2 n ch) = Cert.KernelIdeal.Graph.conv src dst z (fun p ch => s.main_v9_2 (ix2 p ch)) (fun ch => s.main_v9_3 (ix1 ch)) n ch := by
  have h0 := hz n
  have h1 := b88_at j s src dst hs hd z hz n
  have h2 := b111_at j s src dst hs hd z hz n
  have h3 := b134_at j s src dst hs hd z hz n
  unfold b139 b138 b137 b136 b135
  generalize b11 j s = y0 at h0 ⊢
  generalize b88 j s = y1 at h1 ⊢
  generalize b111 j s = y2 at h2 ⊢
  generalize b134 j s = y3 at h3 ⊢
  generalize s.main_v9_2 = w
  generalize s.main_v9_3 = b
  unfold Cert.KernelIdeal.Graph.conv
  pointwise
  congr 1
  rw [Fin.sum_univ_eight, Fin.sum_univ_four]
  simp only [Fin.sum_univ_two]
  have e0 : ∀ c, z n c = hopN src dst z 0 n c := fun _ => rfl
  simp only [e0] at h0
  rw [← add_assoc, ← add_assoc, ← add_assoc]
  have q0 := h0 0
  have q1 := h0 1
  have q2 := h1 0
  have q3 := h1 1
  have q4 := h2 0
  have q5 := h2 1
  have q6 := h3 0
  have q7 := h3 1
  exact congrArg₂ (· + ·) (congrArg₂ (· + ·) (congrArg₂ (· + ·) (congrArg₂ (· + ·) (congrArg₂ (· + ·) (congrArg₂ (· + ·) (congrArg₂ (· + ·)
    (congrArg (· * w (ix2 0 ch)) q0) (congrArg (· * w (ix2 1 ch)) q1)) (congrArg (· * w (ix2 2 ch)) q2)) (congrArg (· * w (ix2 3 ch)) q3))
    (congrArg (· * w (ix2 4 ch)) q4)) (congrArg (· * w (ix2 5 ch)) q5)) (congrArg (· * w (ix2 6 ch)) q6)) (congrArg (· * w (ix2 7 ch)) q7)

end Cert.ReferenceIdeal.Read
-- ==== Proof.RefNet.lean ====
module
public import proofs.«01_k».proof.Proof.Network
public import proofs.«01_k».proof.Proof.RefConv

/-!
The reference's loop: the states from the arguments, trip by trip, and what they hold: after `t` trips each layer's membranes and
spikes are the neurons' after `t` steps, and the running sum is the outputs' numbers of spikes.
-/

@[expose] public section

set_option maxRecDepth 16384

noncomputable section

namespace Cert.ReferenceIdeal.Read

open Cert.ReferenceIdeal.Gen Cert.ReferenceIdeal.Step
open Cert.KernelIdeal.Network
open Idealize.ShloMosaic Idealize.ShloMosaic.StableHlo

/-- The states: the first, then a trip at a time. -/
def states (s0 : State Ideal) : ℕ → State Ideal
  | 0 => s0
  | n + 1 => step n (states s0 n)

/-- A state carries what the network is given. -/
structure Given (a : Net) (s : State Ideal) : Prop where
  src : ∀ e, s.main_v9_1 (ix2 (0 : Fin 2) e) = BitVec.ofNat 32 (a.src e).val
  dst : ∀ e, s.main_v9_1 (ix2 (1 : Fin 2) e) = BitVec.ofNat 32 (a.dst e).val
  x : ∀ n c t, s.main_v9_0 (ix3 n c t) = a.x n c t
  wc : ∀ p ch, s.main_v9_2 (ix2 p ch) = a.wc p ch
  bc : ∀ ch, s.main_v9_3 (ix1 ch) = a.bc ch
  w1 : ∀ l k, s.main_v9_4 (ix2 l k) = a.w1 l k
  b1 : ∀ l, s.main_v9_5 (ix1 l) = a.b1 l
  w2 : ∀ l k, s.main_v9_6 (ix2 l k) = a.w2 l k
  b2 : ∀ l, s.main_v9_7 (ix1 l) = a.b2 l
  w3 : ∀ l k, s.main_v9_8 (ix2 l k) = a.w3 l k
  b3 : ∀ l, s.main_v9_9 (ix1 l) = a.b3 l

/-- A trip carries it on. -/
theorem Given.step {a : Net} {s : State Ideal} (h : Given a s) (j : ℕ) : Given a (step j s) :=
  ⟨h.src, h.dst, h.x, h.wc, h.bc, h.w1, h.b1, h.w2, h.b2, h.w3, h.b3⟩

/-- What a state holds of the neurons after `t` steps. -/
structure Holds (a : Net) (t : ℕ) (s : State Ideal) : Prop where
  m0 : ∀ n ch, s.main_v9_12 (ix2 n ch) = (neuron (a.in0 n ch) t).1
  s0 : ∀ n ch, s.main_v9_13 (ix2 n ch) = (neuron (a.in0 n ch) t).2
  m1 : ∀ l, s.main_v9_14 (ix1 l) = (neuron (a.in1 l) t).1
  s1 : ∀ l, s.main_v9_15 (ix1 l) = (neuron (a.in1 l) t).2
  m2 : ∀ l, s.main_v9_16 (ix1 l) = (neuron (a.in2 l) t).1
  s2 : ∀ l, s.main_v9_17 (ix1 l) = (neuron (a.in2 l) t).2
  m3 : ∀ l, s.main_v9_18 (ix1 l) = (neuron (a.in3 l) t).1
  s3 : ∀ l, s.main_v9_19 (ix1 l) = (neuron (a.in3 l) t).2
  sum : ∀ l, s.main_v9_20 (ix1 l) = spikes (a.in3 l) t

/-- The reference's spike of a membrane. -/
theorem spike_at (z : EReal) :
    (FloatOps.uitofp .f32 (BitVec.ofBool (decide (Ideal.ofBits FTy.f32 0x3F000000#32 < z))) : Ideal .f32) = spike z := by
  unfold spike threshold
  show (((BitVec.ofBool (decide (Ideal.ofBits FTy.f32 0x3F000000#32 < z))).toNat : ℝ) : EReal) = _
  by_cases h : Ideal.ofBits FTy.f32 0x3F000000#32 < z
  · rw [decide_eq_true h]
    refine Eq.trans ?_ (if_pos h).symm
    simp
  · rw [decide_eq_false h]
    refine Eq.trans ?_ (if_neg h).symm
    simp

/-- The convolution layer's membrane after a trip. -/
theorem b140_at (j : ℕ) (s : State Ideal) (n : Fin 39) (ch : Fin 64) :
    b140 j s (ix2 n ch) = membrane (s.main_v9_12 (ix2 n ch)) (s.main_v9_13 (ix2 n ch)) (b139 j s (ix2 n ch)) := by
  unfold b140 b18 b14 membrane decay
  generalize b139 j s = z
  pointwise [b17, b16, b15, b13, b12]

/-- The convolution layer's spike after a trip. -/
theorem b144_at (j : ℕ) (s : State Ideal) (n : Fin 39) (ch : Fin 64) : b144 j s (ix2 n ch) = spike (b140 j s (ix2 n ch)) := by
  rw [← spike_at]
  unfold b144 b143
  generalize b140 j s = z
  pointwise [b142, b141]

/-- The convolution layer's spikes in one row. -/
theorem b145_at (j : ℕ) (s : State Ideal) (k : Fin 2496) :
    b145 j s (ix1 k) = b144 j s (ix2 ⟨k.val / 64, by omega⟩ ⟨k.val % 64, Nat.mod_lt _ (by decide)⟩) := by
  unfold b145
  generalize b144 j s = z
  pointwise

/-- The first hidden layer's membrane after a trip. -/
theorem b156_at (j : ℕ) (s : State Ideal) (l : Fin 128) : b156 j s (ix1 l) = membrane (s.main_v9_14 (ix1 l)) (s.main_v9_15 (ix1 l))
      ((∑ k : Fin 2496, b145 j s (ix1 k) * s.main_v9_4 (ix2 l k)) + s.main_v9_5 (ix1 l)) := by
  unfold b156 b155 b154 b152 b148 membrane decay
  generalize b145 j s = z
  rw [← add_assoc]
  pointwise [b153, b151, b150, b149, b147, b146]

/-- The first hidden layer's spike after a trip. -/
theorem b160_at (j : ℕ) (s : State Ideal) (l : Fin 128) : b160 j s (ix1 l) = spike (b156 j s (ix1 l)) := by
  rw [← spike_at]
  unfold b160 b159
  generalize b156 j s = z
  pointwise [b158, b157]

/-- The second hidden layer's membrane after a trip. -/
theorem b171_at (j : ℕ) (s : State Ideal) (l : Fin 256) : b171 j s (ix1 l) = membrane (s.main_v9_16 (ix1 l)) (s.main_v9_17 (ix1 l))
      ((∑ k : Fin 128, b160 j s (ix1 k) * s.main_v9_6 (ix2 l k)) + s.main_v9_7 (ix1 l)) := by
  unfold b171 b170 b169 b167 b163 membrane decay
  generalize b160 j s = z
  rw [← add_assoc]
  pointwise [b168, b166, b165, b164, b162, b161]

/-- The second hidden layer's spike after a trip. -/
theorem b175_at (j : ℕ) (s : State Ideal) (l : Fin 256) : b175 j s (ix1 l) = spike (b171 j s (ix1 l)) := by
  rw [← spike_at]
  unfold b175 b174
  generalize b171 j s = z
  pointwise [b173, b172]

/-- The output layer's membrane after a trip. -/
theorem b186_at (j : ℕ) (s : State Ideal) (l : Fin 36) : b186 j s (ix1 l) = membrane (s.main_v9_18 (ix1 l)) (s.main_v9_19 (ix1 l))
      ((∑ k : Fin 256, b175 j s (ix1 k) * s.main_v9_8 (ix2 l k)) + s.main_v9_9 (ix1 l)) := by
  unfold b186 b185 b184 b182 b178 membrane decay
  generalize b175 j s = z
  rw [← add_assoc]
  pointwise [b183, b181, b180, b179, b177, b176]

/-- The output layer's spike after a trip. -/
theorem b190_at (j : ℕ) (s : State Ideal) (l : Fin 36) : b190 j s (ix1 l) = spike (b186 j s (ix1 l)) := by
  rw [← spike_at]
  unfold b190 b189
  generalize b186 j s = z
  pointwise [b188, b187]

/-- One trip takes the neurons one step. -/
theorem Holds.step {a : Net} {t : ℕ} {s : State Ideal} (g : Given a s) (h : Holds a t s) (ht : t < 100) :
    Holds a (t + 1) (step t s) := by
  have e0 : ∀ n ch, b139 t s (ix2 n ch) = a.in0 n ch t := by
    intro n ch
    rw [b139_at t s a.src a.dst g.src g.dst (a.feat t) ?_ n ch]
    · unfold Net.in0
      simp only [g.wc, g.bc]
    · intro n c
      refine (b11_at ⟨t, ht⟩ s n c).trans ?_
      rw [g.x]
      unfold Net.feat
      rw [dif_pos ht]
  have m0 : ∀ n ch, b140 t s (ix2 n ch) = (neuron (a.in0 n ch) (t + 1)).1 := fun n ch => by
    rw [b140_at, h.m0, h.s0, e0]; rfl
  have s0 : ∀ n ch, b144 t s (ix2 n ch) = (neuron (a.in0 n ch) (t + 1)).2 := fun n ch => by
    rw [b144_at, m0]; rfl
  have k0 : ∀ k, b145 t s (ix1 k) = a.out0 k t := fun k => by rw [b145_at, s0]; rfl
  have m1 : ∀ l, b156 t s (ix1 l) = (neuron (a.in1 l) (t + 1)).1 := fun l => by
    rw [b156_at, h.m1, h.s1]
    simp only [k0, g.w1, g.b1]
    rfl
  have s1 : ∀ l, b160 t s (ix1 l) = (neuron (a.in1 l) (t + 1)).2 := fun l => by
    rw [b160_at, m1]; rfl
  have m2 : ∀ l, b171 t s (ix1 l) = (neuron (a.in2 l) (t + 1)).1 := fun l => by
    rw [b171_at, h.m2, h.s2]
    simp only [s1, g.w2, g.b2]
    rfl
  have s2 : ∀ l, b175 t s (ix1 l) = (neuron (a.in2 l) (t + 1)).2 := fun l => by
    rw [b175_at, m2]; rfl
  have m3 : ∀ l, b186 t s (ix1 l) = (neuron (a.in3 l) (t + 1)).1 := fun l => by
    rw [b186_at, h.m3, h.s3]
    simp only [s2, g.w3, g.b3]
    rfl
  have s3 : ∀ l, b190 t s (ix1 l) = (neuron (a.in3 l) (t + 1)).2 := fun l => by
    rw [b190_at, m3]; rfl
  exact ⟨m0, s0, m1, s1, m2, s2, m3, s3, fun l => by
    show s.main_v9_20 (ix1 l) + b190 t s (ix1 l) = _
    rw [h.sum, s3]; rfl⟩

/-- What the states hold, up to the last. -/
theorem states_hold {a : Net} {s0 : State Ideal} (g : Given a s0) (h : Holds a 0 s0) :
    ∀ t, t ≤ 100 → Given a (states s0 t) ∧ Holds a t (states s0 t)
  | 0, _ => ⟨g, h⟩
  | t + 1, ht =>
    have r := states_hold g h t (by omega)
    ⟨r.1.step t, r.2.step r.1 (by omega)⟩

/-- The number of steps as its float word. -/
theorem hundred : Ideal.ofBits FTy.f32 0x42C80000#32 = ((100 : ℝ) : EReal) := by
  simp [Ideal.ofBits, Ideal.ieee, -EReal.coe_mul]
  norm_num

/-- The reference's result is the network's mean. -/
theorem mean_at {a : Net} {s0 : State Ideal} (g : Given a s0) (h : Holds a 0 s0) (l : Fin 36) :
    R_main_v11 (states s0 100) (ix1 l) = a.mean l := by
  have e := (states_hold g h 100 le_rfl).2.sum l
  unfold R_main_v11
  generalize (states s0 100).main_v9_20 = z at e ⊢
  unfold Net.mean
  rw [← e]
  pointwise
  have hh : Ideal.ofBits FTy.f32 0x42C80000#32 = ((100 : ℝ) : EReal) := hundred
  rw [hh, Ideal.div_coe (by norm_num : (100 : ℝ) ≠ 0), one_div]

end Cert.ReferenceIdeal.Read

end
-- ==== Proof.Loop1.lean ====
module
public import proofs.«01_k».proof.Proof.Gen.KernelIdeal.Loops
public import proofs.«01_k».proof.Proof.Lif

/-!
The first spiking loop: it scans the convolution's rows.
-/

@[expose] public section

set_option maxRecDepth 16384
set_option maxHeartbeats 4000000

noncomputable section

namespace Cert.KernelIdeal.Scan

open Cert.KernelIdeal.Gen Cert.KernelIdeal.Lif
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! ### Loop 1 -/

/-- The loop makes ten trips. -/
theorem trips_1 : k0_t1_loop.trips = 10 := by decide

section
variable {F : FTy → Type} [FloatOps F] [Named F]

/-- One trip advances the carried pair by ten rows. -/
theorem carried_1 (𝒱 : Variants) (c : Dev nD) (bd : Option 𝒱.V) (arg0 : Memref sig .tc .vmem S100x78 .f32) (harg0 : arg0.IsWhole) (arg1 : Memref sig .tc .vmem S1x286 .i32) (harg1 : arg1.IsWhole) (arg2 : Memref sig .tc .vmem S1x286 .i32) (harg2 : arg2.IsWhole) (arg3 : Memref sig .tc .vmem S286x1 .i32) (harg3 : arg3.IsWhole) (arg4 : Memref sig .tc .vmem S8x64 .f32) (harg4 : arg4.IsWhole) (arg5 : Memref sig .tc .vmem S1x64 .f32) (harg5 : arg5.IsWhole) (arg6 : Memref sig .tc .vmem S128x2496 .f32) (harg6 : arg6.IsWhole) (arg7 : Memref sig .tc .vmem S1x128 .f32) (harg7 : arg7.IsWhole) (arg8 : Memref sig .tc .vmem S256x128 .f32) (harg8 : arg8.IsWhole) (arg9 : Memref sig .tc .vmem S1x256 .f32) (harg9 : arg9.IsWhole) (arg10 : Memref sig .tc .vmem S128x256 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S100x2496 .f32) (harg13 : arg13.IsWhole) (arg14 : Memref sig .tc .vmem S100x2496 .f32) (harg14 : arg14.IsWhole) (arg15 : Memref sig .tc .vmem S100x128 .f32) (harg15 : arg15.IsWhole) (arg16 : Memref sig .tc .vmem S100x128 .f32) (harg16 : arg16.IsWhole) (arg17 : Memref sig .tc .vmem S100x256 .f32) (harg17 : arg17.IsWhole) (arg18 : Memref sig .tc .vmem S100x256 .f32) (harg18 : arg18.IsWhole) (arg19 : Memref sig .tc .vmem S100x128 .f32) (harg19 : arg19.IsWhole) (v271 : FVec F S100x2496 .f32) (X : BufTy.Contents (Elt F) arg13.view.ty) (k : Fin k0_t1_loop.trips) (init acc : FVec F S1x2496 .f32 × FVec F S1x2496 .f32)
    (hacc : acc = lifFrom init (arg13.view.read (Elt F) X) (10 * k.val)) :
    tripR_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v271 X k acc = lifFrom init (arg13.view.read (Elt F) X) (10 * k.val + 10) := by
  have hk : k.val < 10 := Nat.lt_of_lt_of_le k.isLt k0_t1_abs.2.1
  have hr0 : View.readAt (Elt F) arg13.view (Rect.unit (s := S100x2496) (k0_off1 k 0#32) S1x2496.size (k0_off1_inb k 0)).toLoadRect X = rowOf (arg13.view.read (Elt F) X) (10 * k.val + 0) :=
    readAt_row _ _ _ _ (by omega) (k0_off1_eq k 0)
  have hr1 : View.readAt (Elt F) arg13.view (Rect.unit (s := S100x2496) (k0_off1 k 1#32) S1x2496.size (k0_off1_inb k 1)).toLoadRect X = rowOf (arg13.view.read (Elt F) X) (10 * k.val + 1) :=
    readAt_row _ _ _ _ (by omega) (k0_off1_eq k 1)
  have hr2 : View.readAt (Elt F) arg13.view (Rect.unit (s := S100x2496) (k0_off1 k 2#32) S1x2496.size (k0_off1_inb k 2)).toLoadRect X = rowOf (arg13.view.read (Elt F) X) (10 * k.val + 2) :=
    readAt_row _ _ _ _ (by omega) (k0_off1_eq k 2)
  have hr3 : View.readAt (Elt F) arg13.view (Rect.unit (s := S100x2496) (k0_off1 k 3#32) S1x2496.size (k0_off1_inb k 3)).toLoadRect X = rowOf (arg13.view.read (Elt F) X) (10 * k.val + 3) :=
    readAt_row _ _ _ _ (by omega) (k0_off1_eq k 3)
  have hr4 : View.readAt (Elt F) arg13.view (Rect.unit (s := S100x2496) (k0_off1 k 4#32) S1x2496.size (k0_off1_inb k 4)).toLoadRect X = rowOf (arg13.view.read (Elt F) X) (10 * k.val + 4) :=
    readAt_row _ _ _ _ (by omega) (k0_off1_eq k 4)
  have hr5 : View.readAt (Elt F) arg13.view (Rect.unit (s := S100x2496) (k0_off1 k 5#32) S1x2496.size (k0_off1_inb k 5)).toLoadRect X = rowOf (arg13.view.read (Elt F) X) (10 * k.val + 5) :=
    readAt_row _ _ _ _ (by omega) (k0_off1_eq k 5)
  have hr6 : View.readAt (Elt F) arg13.view (Rect.unit (s := S100x2496) (k0_off1 k 6#32) S1x2496.size (k0_off1_inb k 6)).toLoadRect X = rowOf (arg13.view.read (Elt F) X) (10 * k.val + 6) :=
    readAt_row _ _ _ _ (by omega) (k0_off1_eq k 6)
  have hr7 : View.readAt (Elt F) arg13.view (Rect.unit (s := S100x2496) (k0_off1 k 7#32) S1x2496.size (k0_off1_inb k 7)).toLoadRect X = rowOf (arg13.view.read (Elt F) X) (10 * k.val + 7) :=
    readAt_row _ _ _ _ (by omega) (k0_off1_eq k 7)
  have hr8 : View.readAt (Elt F) arg13.view (Rect.unit (s := S100x2496) (k0_off1 k 8#32) S1x2496.size (k0_off1_inb k 8)).toLoadRect X = rowOf (arg13.view.read (Elt F) X) (10 * k.val + 8) :=
    readAt_row _ _ _ _ (by omega) (k0_off1_eq k 8)
  have hr9 : View.readAt (Elt F) arg13.view (Rect.unit (s := S100x2496) (k0_off1 k 9#32) S1x2496.size (k0_off1_inb k 9)).toLoadRect X = rowOf (arg13.view.read (Elt F) X) (10 * k.val + 9) :=
    readAt_row _ _ _ _ (by omega) (k0_off1_eq k 9)
  let p1 := lifStep (View.readAt (Elt F) arg13.view (Rect.unit (s := S100x2496) (k0_off1 k 0#32) S1x2496.size (k0_off1_inb k 0)).toLoadRect X) acc
  have hp1 : p1 = lifFrom init (arg13.view.read (Elt F) X) (10 * k.val + 1) := by
    show lifStep _ _ = _
    rw [hr0, hacc]; rfl
  let p2 := lifStep (View.readAt (Elt F) arg13.view (Rect.unit (s := S100x2496) (k0_off1 k 1#32) S1x2496.size (k0_off1_inb k 1)).toLoadRect X) p1
  have hp2 : p2 = lifFrom init (arg13.view.read (Elt F) X) (10 * k.val + 2) := by
    show lifStep _ _ = _
    rw [hr1, hp1]; rfl
  let p3 := lifStep (View.readAt (Elt F) arg13.view (Rect.unit (s := S100x2496) (k0_off1 k 2#32) S1x2496.size (k0_off1_inb k 2)).toLoadRect X) p2
  have hp3 : p3 = lifFrom init (arg13.view.read (Elt F) X) (10 * k.val + 3) := by
    show lifStep _ _ = _
    rw [hr2, hp2]; rfl
  let p4 := lifStep (View.readAt (Elt F) arg13.view (Rect.unit (s := S100x2496) (k0_off1 k 3#32) S1x2496.size (k0_off1_inb k 3)).toLoadRect X) p3
  have hp4 : p4 = lifFrom init (arg13.view.read (Elt F) X) (10 * k.val + 4) := by
    show lifStep _ _ = _
    rw [hr3, hp3]; rfl
  let p5 := lifStep (View.readAt (Elt F) arg13.view (Rect.unit (s := S100x2496) (k0_off1 k 4#32) S1x2496.size (k0_off1_inb k 4)).toLoadRect X) p4
  have hp5 : p5 = lifFrom init (arg13.view.read (Elt F) X) (10 * k.val + 5) := by
    show lifStep _ _ = _
    rw [hr4, hp4]; rfl
  let p6 := lifStep (View.readAt (Elt F) arg13.view (Rect.unit (s := S100x2496) (k0_off1 k 5#32) S1x2496.size (k0_off1_inb k 5)).toLoadRect X) p5
  have hp6 : p6 = lifFrom init (arg13.view.read (Elt F) X) (10 * k.val + 6) := by
    show lifStep _ _ = _
    rw [hr5, hp5]; rfl
  let p7 := lifStep (View.readAt (Elt F) arg13.view (Rect.unit (s := S100x2496) (k0_off1 k 6#32) S1x2496.size (k0_off1_inb k 6)).toLoadRect X) p6
  have hp7 : p7 = lifFrom init (arg13.view.read (Elt F) X) (10 * k.val + 7) := by
    show lifStep _ _ = _
    rw [hr6, hp6]; rfl
  let p8 := lifStep (View.readAt (Elt F) arg13.view (Rect.unit (s := S100x2496) (k0_off1 k 7#32) S1x2496.size (k0_off1_inb k 7)).toLoadRect X) p7
  have hp8 : p8 = lifFrom init (arg13.view.read (Elt F) X) (10 * k.val + 8) := by
    show lifStep _ _ = _
    rw [hr7, hp7]; rfl
  let p9 := lifStep (View.readAt (Elt F) arg13.view (Rect.unit (s := S100x2496) (k0_off1 k 8#32) S1x2496.size (k0_off1_inb k 8)).toLoadRect X) p8
  have hp9 : p9 = lifFrom init (arg13.view.read (Elt F) X) (10 * k.val + 9) := by
    show lifStep _ _ = _
    rw [hr8, hp8]; rfl
  let p10 := lifStep (View.readAt (Elt F) arg13.view (Rect.unit (s := S100x2496) (k0_off1 k 9#32) S1x2496.size (k0_off1_inb k 9)).toLoadRect X) p9
  have hp10 : p10 = lifFrom init (arg13.view.read (Elt F) X) (10 * k.val + 10) := by
    show lifStep _ _ = _
    rw [hr9, hp9]; rfl
  have e : tripR_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v271 X k acc = p10 := by
    unfold tripR_k0_t1 trip_k0_t1
    rfl
  exact e.trans hp10

/-- One trip makes ten more rows right. -/
theorem rows_1 (𝒱 : Variants) (c : Dev nD) (bd : Option 𝒱.V) (arg0 : Memref sig .tc .vmem S100x78 .f32) (harg0 : arg0.IsWhole) (arg1 : Memref sig .tc .vmem S1x286 .i32) (harg1 : arg1.IsWhole) (arg2 : Memref sig .tc .vmem S1x286 .i32) (harg2 : arg2.IsWhole) (arg3 : Memref sig .tc .vmem S286x1 .i32) (harg3 : arg3.IsWhole) (arg4 : Memref sig .tc .vmem S8x64 .f32) (harg4 : arg4.IsWhole) (arg5 : Memref sig .tc .vmem S1x64 .f32) (harg5 : arg5.IsWhole) (arg6 : Memref sig .tc .vmem S128x2496 .f32) (harg6 : arg6.IsWhole) (arg7 : Memref sig .tc .vmem S1x128 .f32) (harg7 : arg7.IsWhole) (arg8 : Memref sig .tc .vmem S256x128 .f32) (harg8 : arg8.IsWhole) (arg9 : Memref sig .tc .vmem S1x256 .f32) (harg9 : arg9.IsWhole) (arg10 : Memref sig .tc .vmem S128x256 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S100x2496 .f32) (harg13 : arg13.IsWhole) (arg14 : Memref sig .tc .vmem S100x2496 .f32) (harg14 : arg14.IsWhole) (arg15 : Memref sig .tc .vmem S100x128 .f32) (harg15 : arg15.IsWhole) (arg16 : Memref sig .tc .vmem S100x128 .f32) (harg16 : arg16.IsWhole) (arg17 : Memref sig .tc .vmem S100x256 .f32) (harg17 : arg17.IsWhole) (arg18 : Memref sig .tc .vmem S100x256 .f32) (harg18 : arg18.IsWhole) (arg19 : Memref sig .tc .vmem S100x128 .f32) (harg19 : arg19.IsWhole) (v271 : FVec F S100x2496 .f32) (X : BufTy.Contents (Elt F) arg13.view.ty) (k : Fin k0_t1_loop.trips) (init acc : FVec F S1x2496 .f32 × FVec F S1x2496 .f32) (f : BufTy.Contents (Elt F) arg14.view.ty)
    (hacc : acc = lifFrom init (arg13.view.read (Elt F) X) (10 * k.val))
    (hf : Rows arg14.view init (arg13.view.read (Elt F) X) f (10 * k.val)) :
    Rows arg14.view init (arg13.view.read (Elt F) X)
      (arg14.view.writes (Elt F) f (tripL_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v271 X k acc)) (10 * k.val + 10) := by
  have hk : k.val < 10 := Nat.lt_of_lt_of_le k.isLt k0_t1_abs.2.1
  have hr0 : View.readAt (Elt F) arg13.view (Rect.unit (s := S100x2496) (k0_off1 k 0#32) S1x2496.size (k0_off1_inb k 0)).toLoadRect X = rowOf (arg13.view.read (Elt F) X) (10 * k.val + 0) :=
    readAt_row _ _ _ _ (by omega) (k0_off1_eq k 0)
  have hr1 : View.readAt (Elt F) arg13.view (Rect.unit (s := S100x2496) (k0_off1 k 1#32) S1x2496.size (k0_off1_inb k 1)).toLoadRect X = rowOf (arg13.view.read (Elt F) X) (10 * k.val + 1) :=
    readAt_row _ _ _ _ (by omega) (k0_off1_eq k 1)
  have hr2 : View.readAt (Elt F) arg13.view (Rect.unit (s := S100x2496) (k0_off1 k 2#32) S1x2496.size (k0_off1_inb k 2)).toLoadRect X = rowOf (arg13.view.read (Elt F) X) (10 * k.val + 2) :=
    readAt_row _ _ _ _ (by omega) (k0_off1_eq k 2)
  have hr3 : View.readAt (Elt F) arg13.view (Rect.unit (s := S100x2496) (k0_off1 k 3#32) S1x2496.size (k0_off1_inb k 3)).toLoadRect X = rowOf (arg13.view.read (Elt F) X) (10 * k.val + 3) :=
    readAt_row _ _ _ _ (by omega) (k0_off1_eq k 3)
  have hr4 : View.readAt (Elt F) arg13.view (Rect.unit (s := S100x2496) (k0_off1 k 4#32) S1x2496.size (k0_off1_inb k 4)).toLoadRect X = rowOf (arg13.view.read (Elt F) X) (10 * k.val + 4) :=
    readAt_row _ _ _ _ (by omega) (k0_off1_eq k 4)
  have hr5 : View.readAt (Elt F) arg13.view (Rect.unit (s := S100x2496) (k0_off1 k 5#32) S1x2496.size (k0_off1_inb k 5)).toLoadRect X = rowOf (arg13.view.read (Elt F) X) (10 * k.val + 5) :=
    readAt_row _ _ _ _ (by omega) (k0_off1_eq k 5)
  have hr6 : View.readAt (Elt F) arg13.view (Rect.unit (s := S100x2496) (k0_off1 k 6#32) S1x2496.size (k0_off1_inb k 6)).toLoadRect X = rowOf (arg13.view.read (Elt F) X) (10 * k.val + 6) :=
    readAt_row _ _ _ _ (by omega) (k0_off1_eq k 6)
  have hr7 : View.readAt (Elt F) arg13.view (Rect.unit (s := S100x2496) (k0_off1 k 7#32) S1x2496.size (k0_off1_inb k 7)).toLoadRect X = rowOf (arg13.view.read (Elt F) X) (10 * k.val + 7) :=
    readAt_row _ _ _ _ (by omega) (k0_off1_eq k 7)
  have hr8 : View.readAt (Elt F) arg13.view (Rect.unit (s := S100x2496) (k0_off1 k 8#32) S1x2496.size (k0_off1_inb k 8)).toLoadRect X = rowOf (arg13.view.read (Elt F) X) (10 * k.val + 8) :=
    readAt_row _ _ _ _ (by omega) (k0_off1_eq k 8)
  have hr9 : View.readAt (Elt F) arg13.view (Rect.unit (s := S100x2496) (k0_off1 k 9#32) S1x2496.size (k0_off1_inb k 9)).toLoadRect X = rowOf (arg13.view.read (Elt F) X) (10 * k.val + 9) :=
    readAt_row _ _ _ _ (by omega) (k0_off1_eq k 9)
  let p1 := lifStep (View.readAt (Elt F) arg13.view (Rect.unit (s := S100x2496) (k0_off1 k 0#32) S1x2496.size (k0_off1_inb k 0)).toLoadRect X) acc
  have hp1 : p1 = lifFrom init (arg13.view.read (Elt F) X) (10 * k.val + 1) := by
    show lifStep _ _ = _
    rw [hr0, hacc]; rfl
  let p2 := lifStep (View.readAt (Elt F) arg13.view (Rect.unit (s := S100x2496) (k0_off1 k 1#32) S1x2496.size (k0_off1_inb k 1)).toLoadRect X) p1
  have hp2 : p2 = lifFrom init (arg13.view.read (Elt F) X) (10 * k.val + 2) := by
    show lifStep _ _ = _
    rw [hr1, hp1]; rfl
  let p3 := lifStep (View.readAt (Elt F) arg13.view (Rect.unit (s := S100x2496) (k0_off1 k 2#32) S1x2496.size (k0_off1_inb k 2)).toLoadRect X) p2
  have hp3 : p3 = lifFrom init (arg13.view.read (Elt F) X) (10 * k.val + 3) := by
    show lifStep _ _ = _
    rw [hr2, hp2]; rfl
  let p4 := lifStep (View.readAt (Elt F) arg13.view (Rect.unit (s := S100x2496) (k0_off1 k 3#32) S1x2496.size (k0_off1_inb k 3)).toLoadRect X) p3
  have hp4 : p4 = lifFrom init (arg13.view.read (Elt F) X) (10 * k.val + 4) := by
    show lifStep _ _ = _
    rw [hr3, hp3]; rfl
  let p5 := lifStep (View.readAt (Elt F) arg13.view (Rect.unit (s := S100x2496) (k0_off1 k 4#32) S1x2496.size (k0_off1_inb k 4)).toLoadRect X) p4
  have hp5 : p5 = lifFrom init (arg13.view.read (Elt F) X) (10 * k.val + 5) := by
    show lifStep _ _ = _
    rw [hr4, hp4]; rfl
  let p6 := lifStep (View.readAt (Elt F) arg13.view (Rect.unit (s := S100x2496) (k0_off1 k 5#32) S1x2496.size (k0_off1_inb k 5)).toLoadRect X) p5
  have hp6 : p6 = lifFrom init (arg13.view.read (Elt F) X) (10 * k.val + 6) := by
    show lifStep _ _ = _
    rw [hr5, hp5]; rfl
  let p7 := lifStep (View.readAt (Elt F) arg13.view (Rect.unit (s := S100x2496) (k0_off1 k 6#32) S1x2496.size (k0_off1_inb k 6)).toLoadRect X) p6
  have hp7 : p7 = lifFrom init (arg13.view.read (Elt F) X) (10 * k.val + 7) := by
    show lifStep _ _ = _
    rw [hr6, hp6]; rfl
  let p8 := lifStep (View.readAt (Elt F) arg13.view (Rect.unit (s := S100x2496) (k0_off1 k 7#32) S1x2496.size (k0_off1_inb k 7)).toLoadRect X) p7
  have hp8 : p8 = lifFrom init (arg13.view.read (Elt F) X) (10 * k.val + 8) := by
    show lifStep _ _ = _
    rw [hr7, hp7]; rfl
  let p9 := lifStep (View.readAt (Elt F) arg13.view (Rect.unit (s := S100x2496) (k0_off1 k 8#32) S1x2496.size (k0_off1_inb k 8)).toLoadRect X) p8
  have hp9 : p9 = lifFrom init (arg13.view.read (Elt F) X) (10 * k.val + 9) := by
    show lifStep _ _ = _
    rw [hr8, hp8]; rfl
  let p10 := lifStep (View.readAt (Elt F) arg13.view (Rect.unit (s := S100x2496) (k0_off1 k 9#32) S1x2496.size (k0_off1_inb k 9)).toLoadRect X) p9
  have hp10 : p10 = lifFrom init (arg13.view.read (Elt F) X) (10 * k.val + 10) := by
    show lifStep _ _ = _
    rw [hr9, hp9]; rfl
  have e : tripL_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v271 X k acc
      = [⟨Rect.unit (s := S100x2496) (k0_off1 k 9#32) S1x2496.size (k0_off1_inb k 9), shapeCast S1x2496 p10.2 shapeCasts_S1x2496_S1x2496⟩, ⟨Rect.unit (s := S100x2496) (k0_off1 k 8#32) S1x2496.size (k0_off1_inb k 8), shapeCast S1x2496 p9.2 shapeCasts_S1x2496_S1x2496⟩, ⟨Rect.unit (s := S100x2496) (k0_off1 k 7#32) S1x2496.size (k0_off1_inb k 7), shapeCast S1x2496 p8.2 shapeCasts_S1x2496_S1x2496⟩, ⟨Rect.unit (s := S100x2496) (k0_off1 k 6#32) S1x2496.size (k0_off1_inb k 6), shapeCast S1x2496 p7.2 shapeCasts_S1x2496_S1x2496⟩, ⟨Rect.unit (s := S100x2496) (k0_off1 k 5#32) S1x2496.size (k0_off1_inb k 5), shapeCast S1x2496 p6.2 shapeCasts_S1x2496_S1x2496⟩, ⟨Rect.unit (s := S100x2496) (k0_off1 k 4#32) S1x2496.size (k0_off1_inb k 4), shapeCast S1x2496 p5.2 shapeCasts_S1x2496_S1x2496⟩, ⟨Rect.unit (s := S100x2496) (k0_off1 k 3#32) S1x2496.size (k0_off1_inb k 3), shapeCast S1x2496 p4.2 shapeCasts_S1x2496_S1x2496⟩, ⟨Rect.unit (s := S100x2496) (k0_off1 k 2#32) S1x2496.size (k0_off1_inb k 2), shapeCast S1x2496 p3.2 shapeCasts_S1x2496_S1x2496⟩, ⟨Rect.unit (s := S100x2496) (k0_off1 k 1#32) S1x2496.size (k0_off1_inb k 1), shapeCast S1x2496 p2.2 shapeCasts_S1x2496_S1x2496⟩, ⟨Rect.unit (s := S100x2496) (k0_off1 k 0#32) S1x2496.size (k0_off1_inb k 0), shapeCast S1x2496 p1.2 shapeCasts_S1x2496_S1x2496⟩] := by
    unfold tripL_k0_t1 trip_k0_t1
    rfl
  rw [e]
  refine Rows.push (t := 10 * k.val + 9) ?_ _ (k0_off1_eq k 9) _ (by rw [hp10]; exact shapeCast_self _ _)
  refine Rows.push (t := 10 * k.val + 8) ?_ _ (k0_off1_eq k 8) _ (by rw [hp9]; exact shapeCast_self _ _)
  refine Rows.push (t := 10 * k.val + 7) ?_ _ (k0_off1_eq k 7) _ (by rw [hp8]; exact shapeCast_self _ _)
  refine Rows.push (t := 10 * k.val + 6) ?_ _ (k0_off1_eq k 6) _ (by rw [hp7]; exact shapeCast_self _ _)
  refine Rows.push (t := 10 * k.val + 5) ?_ _ (k0_off1_eq k 5) _ (by rw [hp6]; exact shapeCast_self _ _)
  refine Rows.push (t := 10 * k.val + 4) ?_ _ (k0_off1_eq k 4) _ (by rw [hp5]; exact shapeCast_self _ _)
  refine Rows.push (t := 10 * k.val + 3) ?_ _ (k0_off1_eq k 3) _ (by rw [hp4]; exact shapeCast_self _ _)
  refine Rows.push (t := 10 * k.val + 2) ?_ _ (k0_off1_eq k 2) _ (by rw [hp3]; exact shapeCast_self _ _)
  refine Rows.push (t := 10 * k.val + 1) ?_ _ (k0_off1_eq k 1) _ (by rw [hp2]; exact shapeCast_self _ _)
  refine Rows.push (t := 10 * k.val + 0) ?_ _ (k0_off1_eq k 0) _ (by rw [hp1]; exact shapeCast_self _ _)
  rw [View.writes_nil]
  exact hf

end

section
variable {F : FTy → Type} [FloatOps F]

/-- Before trip `k`: the input buffer as it was, the first `10 k` rows of the output buffer holding the scan's spikes, and the carried value the scan's after `10 k` rows. -/
abbrev inv_1 (c : Dev nD) (arg13 : Memref sig .tc .vmem S100x2496 .f32) (arg14 : Memref sig .tc .vmem S100x2496 .f32) (X : BufTy.Contents (Elt F) arg13.view.ty) (init : FVec F S1x2496 .f32 × FVec F S1x2496 .f32) (k : ℕ) (acc : FVec F S1x2496 .f32 × FVec F S1x2496 .f32) : sProp (MT nD τ sig Unit (Elt F) ℕ (UR sig nD τ) ℕ) :=
  iprop((arg13.view.loc (c : Thread nD τ) ↦[arg13.view.set]{fullShare} X) ∗ (∃ f, (arg14.view.loc (c : Thread nD τ) ↦[arg14.view.set]{fullShare} f) ∗ ⌜RowsTo arg14.view init (arg13.view.read (Elt F) X) f (10 * k) = True⌝) ∗ ⌜acc = lifFrom init (arg13.view.read (Elt F) X) (10 * k)⌝)

/-- One trip of the loop's region takes the invariant to the next trip. -/
theorem step_1 [Named F] (𝒱 : Variants) (c : Dev nD) (bd : Option 𝒱.V) (E : Set ℕ) (arg0 : Memref sig .tc .vmem S100x78 .f32) (harg0 : arg0.IsWhole) (arg1 : Memref sig .tc .vmem S1x286 .i32) (harg1 : arg1.IsWhole) (arg2 : Memref sig .tc .vmem S1x286 .i32) (harg2 : arg2.IsWhole) (arg3 : Memref sig .tc .vmem S286x1 .i32) (harg3 : arg3.IsWhole) (arg4 : Memref sig .tc .vmem S8x64 .f32) (harg4 : arg4.IsWhole) (arg5 : Memref sig .tc .vmem S1x64 .f32) (harg5 : arg5.IsWhole) (arg6 : Memref sig .tc .vmem S128x2496 .f32) (harg6 : arg6.IsWhole) (arg7 : Memref sig .tc .vmem S1x128 .f32) (harg7 : arg7.IsWhole) (arg8 : Memref sig .tc .vmem S256x128 .f32) (harg8 : arg8.IsWhole) (arg9 : Memref sig .tc .vmem S1x256 .f32) (harg9 : arg9.IsWhole) (arg10 : Memref sig .tc .vmem S128x256 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S100x2496 .f32) (harg13 : arg13.IsWhole) (arg14 : Memref sig .tc .vmem S100x2496 .f32) (harg14 : arg14.IsWhole) (arg15 : Memref sig .tc .vmem S100x128 .f32) (harg15 : arg15.IsWhole) (arg16 : Memref sig .tc .vmem S100x128 .f32) (harg16 : arg16.IsWhole) (arg17 : Memref sig .tc .vmem S100x256 .f32) (harg17 : arg17.IsWhole) (arg18 : Memref sig .tc .vmem S100x256 .f32) (harg18 : arg18.IsWhole) (arg19 : Memref sig .tc .vmem S100x128 .f32) (harg19 : arg19.IsWhole) (v271 : FVec F S100x2496 .f32) (X : BufTy.Contents (Elt F) arg13.view.ty) (init : FVec F S1x2496 .f32 × FVec F S1x2496 .f32) (k : Fin k0_t1_loop.trips) (acc : FVec F S1x2496 .f32 × FVec F S1x2496 .f32) :
    inv_1 (F := F) c arg13 arg14 X init k.val acc ⊢ wp frame (wpE (defs₀ (F := F)) 𝒱 (c : Thread nD τ) bd) E (k0_t1_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v271 k acc)
      (inv_1 (F := F) c arg13 arg14 X init (k.val + 1)) := by
  iintro ⟨HR, ⟨%f, HW, %hf⟩, %hacc⟩
  iapply (wp_wand_r Idealize.ShloMosaic.frame (wpE defs₀ 𝒱 (c : Thread nD τ) bd) E)
  isplitl [HR HW]
  · iapply ((trip_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v271 X k).2.2 E acc f)
    isplitl [HR]; · iexact HR
    iexact HW
  · iintro %yld ⟨%h_res, HR, HW⟩
    isplitl [HR]; · iexact HR
    isplitl [HW]
    · iexists _; isplitl [HW]; · iexact HW
      ipureintro
      exact (rowsTo_eq_true ..).mpr (rows_1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v271 X k init acc f hacc ((rowsTo_eq_true ..).mp hf))
    ipureintro
    exact h_res.trans (carried_1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v271 X k init acc hacc)

set_option warn.classDefReducibility false in
/-- The loop by its invariant. -/
@[sl_loop] def loopInv_1 (𝒱 : Variants) (c : Dev nD) (bd : Option 𝒱.V) (E : Set ℕ) (arg0 : Memref sig .tc .vmem S100x78 .f32) (harg0 : arg0.IsWhole) (arg1 : Memref sig .tc .vmem S1x286 .i32) (harg1 : arg1.IsWhole) (arg2 : Memref sig .tc .vmem S1x286 .i32) (harg2 : arg2.IsWhole) (arg3 : Memref sig .tc .vmem S286x1 .i32) (harg3 : arg3.IsWhole) (arg4 : Memref sig .tc .vmem S8x64 .f32) (harg4 : arg4.IsWhole) (arg5 : Memref sig .tc .vmem S1x64 .f32) (harg5 : arg5.IsWhole) (arg6 : Memref sig .tc .vmem S128x2496 .f32) (harg6 : arg6.IsWhole) (arg7 : Memref sig .tc .vmem S1x128 .f32) (harg7 : arg7.IsWhole) (arg8 : Memref sig .tc .vmem S256x128 .f32) (harg8 : arg8.IsWhole) (arg9 : Memref sig .tc .vmem S1x256 .f32) (harg9 : arg9.IsWhole) (arg10 : Memref sig .tc .vmem S128x256 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S100x2496 .f32) (harg13 : arg13.IsWhole) (arg14 : Memref sig .tc .vmem S100x2496 .f32) (harg14 : arg14.IsWhole) (arg15 : Memref sig .tc .vmem S100x128 .f32) (harg15 : arg15.IsWhole) (arg16 : Memref sig .tc .vmem S100x128 .f32) (harg16 : arg16.IsWhole) (arg17 : Memref sig .tc .vmem S100x256 .f32) (harg17 : arg17.IsWhole) (arg18 : Memref sig .tc .vmem S100x256 .f32) (harg18 : arg18.IsWhole) (arg19 : Memref sig .tc .vmem S100x128 .f32) (harg19 : arg19.IsWhole) (X : BufTy.Contents (Elt Ideal) arg13.view.ty) (init : FVec Ideal S1x2496 .f32 × FVec Ideal S1x2496 .f32) :
    LoopInv (M := MT nD τ sig Unit (Elt Ideal) ℕ (UR sig nD τ) ℕ) Idealize.ShloMosaic.frame (wpE (defs₀ (F := Ideal)) 𝒱 (c : Thread nD τ) bd) E
      k0_t1_loop.lb k0_t1_loop.ub k0_t1_loop.st k0_t1_ok init (k0_t1_body (F := Ideal) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (constant S100x2496 .f32 0#32)) where
  inv := inv_1 (F := Ideal) c arg13 arg14 X init
  step k acc := by
    exact step_1 (F := Ideal)  𝒱 c bd E arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (constant S100x2496 .f32 0#32) X init k acc

set_option warn.classDefReducibility false in
/-- After the loop: the output buffer holds the matrix of the spikes. -/
def loopExit_1 (𝒱 : Variants) (c : Dev nD) (bd : Option 𝒱.V) (E : Set ℕ) (arg0 : Memref sig .tc .vmem S100x78 .f32) (harg0 : arg0.IsWhole) (arg1 : Memref sig .tc .vmem S1x286 .i32) (harg1 : arg1.IsWhole) (arg2 : Memref sig .tc .vmem S1x286 .i32) (harg2 : arg2.IsWhole) (arg3 : Memref sig .tc .vmem S286x1 .i32) (harg3 : arg3.IsWhole) (arg4 : Memref sig .tc .vmem S8x64 .f32) (harg4 : arg4.IsWhole) (arg5 : Memref sig .tc .vmem S1x64 .f32) (harg5 : arg5.IsWhole) (arg6 : Memref sig .tc .vmem S128x2496 .f32) (harg6 : arg6.IsWhole) (arg7 : Memref sig .tc .vmem S1x128 .f32) (harg7 : arg7.IsWhole) (arg8 : Memref sig .tc .vmem S256x128 .f32) (harg8 : arg8.IsWhole) (arg9 : Memref sig .tc .vmem S1x256 .f32) (harg9 : arg9.IsWhole) (arg10 : Memref sig .tc .vmem S128x256 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S100x2496 .f32) (harg13 : arg13.IsWhole) (arg14 : Memref sig .tc .vmem S100x2496 .f32) (harg14 : arg14.IsWhole) (arg15 : Memref sig .tc .vmem S100x128 .f32) (harg15 : arg15.IsWhole) (arg16 : Memref sig .tc .vmem S100x128 .f32) (harg16 : arg16.IsWhole) (arg17 : Memref sig .tc .vmem S100x256 .f32) (harg17 : arg17.IsWhole) (arg18 : Memref sig .tc .vmem S100x256 .f32) (harg18 : arg18.IsWhole) (arg19 : Memref sig .tc .vmem S100x128 .f32) (harg19 : arg19.IsWhole) (X : BufTy.Contents (Elt Ideal) arg13.view.ty) (init : FVec Ideal S1x2496 .f32 × FVec Ideal S1x2496 .f32) :
    LoopExit (loopInv_1 𝒱 c bd E arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X init) where
  post acc := iprop((arg13.view.loc (c : Thread nD τ) ↦[arg13.view.set]{fullShare} X) ∗ (arg14.view.loc (c : Thread nD τ) ↦[arg14.view.set]{fullShare} (harg14.unread (spikesFrom init (arg13.view.read (Elt Ideal) X)))))
  exit acc := by
    show inv_1 (F := Ideal) c arg13 arg14 X init _ acc ⊢ _
    iintro ⟨HR, ⟨%f, HW, %hf⟩, %hacc⟩
    obtain rfl := harg14.eq_unread (((rowsTo_eq_true ..).mp hf).all (congrArg (10 * ·) trips_1))
    isplitl [HR]; · iexact HR
    iexact HW

end

end Cert.KernelIdeal.Scan

end
-- ==== Proof.Loop2.lean ====
module
public import proofs.«01_k».proof.Proof.Gen.KernelIdeal.Loops
public import proofs.«01_k».proof.Proof.Lif

/-!
The second spiking loop: it scans the first hidden layer's rows.
-/

@[expose] public section

set_option maxRecDepth 16384
set_option maxHeartbeats 4000000

noncomputable section

namespace Cert.KernelIdeal.Scan

open Cert.KernelIdeal.Gen Cert.KernelIdeal.Lif
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! ### Loop 2 -/

/-- The loop makes ten trips. -/
theorem trips_2 : k0_t2_loop.trips = 10 := by decide

section
variable {F : FTy → Type} [FloatOps F] [Named F]

/-- One trip advances the carried pair by ten rows. -/
theorem carried_2 (𝒱 : Variants) (c : Dev nD) (bd : Option 𝒱.V) (arg0 : Memref sig .tc .vmem S100x78 .f32) (harg0 : arg0.IsWhole) (arg1 : Memref sig .tc .vmem S1x286 .i32) (harg1 : arg1.IsWhole) (arg2 : Memref sig .tc .vmem S1x286 .i32) (harg2 : arg2.IsWhole) (arg3 : Memref sig .tc .vmem S286x1 .i32) (harg3 : arg3.IsWhole) (arg4 : Memref sig .tc .vmem S8x64 .f32) (harg4 : arg4.IsWhole) (arg5 : Memref sig .tc .vmem S1x64 .f32) (harg5 : arg5.IsWhole) (arg6 : Memref sig .tc .vmem S128x2496 .f32) (harg6 : arg6.IsWhole) (arg7 : Memref sig .tc .vmem S1x128 .f32) (harg7 : arg7.IsWhole) (arg8 : Memref sig .tc .vmem S256x128 .f32) (harg8 : arg8.IsWhole) (arg9 : Memref sig .tc .vmem S1x256 .f32) (harg9 : arg9.IsWhole) (arg10 : Memref sig .tc .vmem S128x256 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S100x2496 .f32) (harg13 : arg13.IsWhole) (arg14 : Memref sig .tc .vmem S100x2496 .f32) (harg14 : arg14.IsWhole) (arg15 : Memref sig .tc .vmem S100x128 .f32) (harg15 : arg15.IsWhole) (arg16 : Memref sig .tc .vmem S100x128 .f32) (harg16 : arg16.IsWhole) (arg17 : Memref sig .tc .vmem S100x256 .f32) (harg17 : arg17.IsWhole) (arg18 : Memref sig .tc .vmem S100x256 .f32) (harg18 : arg18.IsWhole) (arg19 : Memref sig .tc .vmem S100x128 .f32) (harg19 : arg19.IsWhole) (v271 : FVec F S100x2496 .f32) (X : BufTy.Contents (Elt F) arg15.view.ty) (k : Fin k0_t2_loop.trips) (init acc : FVec F S1x128 .f32 × FVec F S1x128 .f32)
    (hacc : acc = lifFrom init (arg15.view.read (Elt F) X) (10 * k.val)) :
    tripR_k0_t2 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v271 X k acc = lifFrom init (arg15.view.read (Elt F) X) (10 * k.val + 10) := by
  have hk : k.val < 10 := Nat.lt_of_lt_of_le k.isLt k0_t2_abs.2.1
  have hr0 : View.readAt (Elt F) arg15.view (Rect.unit (s := S100x128) (k0_off2 k 0#32) S1x128.size (k0_off2_inb k 0)).toLoadRect X = rowOf (arg15.view.read (Elt F) X) (10 * k.val + 0) :=
    readAt_row _ _ _ _ (by omega) (k0_off2_eq k 0)
  have hr1 : View.readAt (Elt F) arg15.view (Rect.unit (s := S100x128) (k0_off2 k 1#32) S1x128.size (k0_off2_inb k 1)).toLoadRect X = rowOf (arg15.view.read (Elt F) X) (10 * k.val + 1) :=
    readAt_row _ _ _ _ (by omega) (k0_off2_eq k 1)
  have hr2 : View.readAt (Elt F) arg15.view (Rect.unit (s := S100x128) (k0_off2 k 2#32) S1x128.size (k0_off2_inb k 2)).toLoadRect X = rowOf (arg15.view.read (Elt F) X) (10 * k.val + 2) :=
    readAt_row _ _ _ _ (by omega) (k0_off2_eq k 2)
  have hr3 : View.readAt (Elt F) arg15.view (Rect.unit (s := S100x128) (k0_off2 k 3#32) S1x128.size (k0_off2_inb k 3)).toLoadRect X = rowOf (arg15.view.read (Elt F) X) (10 * k.val + 3) :=
    readAt_row _ _ _ _ (by omega) (k0_off2_eq k 3)
  have hr4 : View.readAt (Elt F) arg15.view (Rect.unit (s := S100x128) (k0_off2 k 4#32) S1x128.size (k0_off2_inb k 4)).toLoadRect X = rowOf (arg15.view.read (Elt F) X) (10 * k.val + 4) :=
    readAt_row _ _ _ _ (by omega) (k0_off2_eq k 4)
  have hr5 : View.readAt (Elt F) arg15.view (Rect.unit (s := S100x128) (k0_off2 k 5#32) S1x128.size (k0_off2_inb k 5)).toLoadRect X = rowOf (arg15.view.read (Elt F) X) (10 * k.val + 5) :=
    readAt_row _ _ _ _ (by omega) (k0_off2_eq k 5)
  have hr6 : View.readAt (Elt F) arg15.view (Rect.unit (s := S100x128) (k0_off2 k 6#32) S1x128.size (k0_off2_inb k 6)).toLoadRect X = rowOf (arg15.view.read (Elt F) X) (10 * k.val + 6) :=
    readAt_row _ _ _ _ (by omega) (k0_off2_eq k 6)
  have hr7 : View.readAt (Elt F) arg15.view (Rect.unit (s := S100x128) (k0_off2 k 7#32) S1x128.size (k0_off2_inb k 7)).toLoadRect X = rowOf (arg15.view.read (Elt F) X) (10 * k.val + 7) :=
    readAt_row _ _ _ _ (by omega) (k0_off2_eq k 7)
  have hr8 : View.readAt (Elt F) arg15.view (Rect.unit (s := S100x128) (k0_off2 k 8#32) S1x128.size (k0_off2_inb k 8)).toLoadRect X = rowOf (arg15.view.read (Elt F) X) (10 * k.val + 8) :=
    readAt_row _ _ _ _ (by omega) (k0_off2_eq k 8)
  have hr9 : View.readAt (Elt F) arg15.view (Rect.unit (s := S100x128) (k0_off2 k 9#32) S1x128.size (k0_off2_inb k 9)).toLoadRect X = rowOf (arg15.view.read (Elt F) X) (10 * k.val + 9) :=
    readAt_row _ _ _ _ (by omega) (k0_off2_eq k 9)
  let p1 := lifStep (View.readAt (Elt F) arg15.view (Rect.unit (s := S100x128) (k0_off2 k 0#32) S1x128.size (k0_off2_inb k 0)).toLoadRect X) acc
  have hp1 : p1 = lifFrom init (arg15.view.read (Elt F) X) (10 * k.val + 1) := by
    show lifStep _ _ = _
    rw [hr0, hacc]; rfl
  let p2 := lifStep (View.readAt (Elt F) arg15.view (Rect.unit (s := S100x128) (k0_off2 k 1#32) S1x128.size (k0_off2_inb k 1)).toLoadRect X) p1
  have hp2 : p2 = lifFrom init (arg15.view.read (Elt F) X) (10 * k.val + 2) := by
    show lifStep _ _ = _
    rw [hr1, hp1]; rfl
  let p3 := lifStep (View.readAt (Elt F) arg15.view (Rect.unit (s := S100x128) (k0_off2 k 2#32) S1x128.size (k0_off2_inb k 2)).toLoadRect X) p2
  have hp3 : p3 = lifFrom init (arg15.view.read (Elt F) X) (10 * k.val + 3) := by
    show lifStep _ _ = _
    rw [hr2, hp2]; rfl
  let p4 := lifStep (View.readAt (Elt F) arg15.view (Rect.unit (s := S100x128) (k0_off2 k 3#32) S1x128.size (k0_off2_inb k 3)).toLoadRect X) p3
  have hp4 : p4 = lifFrom init (arg15.view.read (Elt F) X) (10 * k.val + 4) := by
    show lifStep _ _ = _
    rw [hr3, hp3]; rfl
  let p5 := lifStep (View.readAt (Elt F) arg15.view (Rect.unit (s := S100x128) (k0_off2 k 4#32) S1x128.size (k0_off2_inb k 4)).toLoadRect X) p4
  have hp5 : p5 = lifFrom init (arg15.view.read (Elt F) X) (10 * k.val + 5) := by
    show lifStep _ _ = _
    rw [hr4, hp4]; rfl
  let p6 := lifStep (View.readAt (Elt F) arg15.view (Rect.unit (s := S100x128) (k0_off2 k 5#32) S1x128.size (k0_off2_inb k 5)).toLoadRect X) p5
  have hp6 : p6 = lifFrom init (arg15.view.read (Elt F) X) (10 * k.val + 6) := by
    show lifStep _ _ = _
    rw [hr5, hp5]; rfl
  let p7 := lifStep (View.readAt (Elt F) arg15.view (Rect.unit (s := S100x128) (k0_off2 k 6#32) S1x128.size (k0_off2_inb k 6)).toLoadRect X) p6
  have hp7 : p7 = lifFrom init (arg15.view.read (Elt F) X) (10 * k.val + 7) := by
    show lifStep _ _ = _
    rw [hr6, hp6]; rfl
  let p8 := lifStep (View.readAt (Elt F) arg15.view (Rect.unit (s := S100x128) (k0_off2 k 7#32) S1x128.size (k0_off2_inb k 7)).toLoadRect X) p7
  have hp8 : p8 = lifFrom init (arg15.view.read (Elt F) X) (10 * k.val + 8) := by
    show lifStep _ _ = _
    rw [hr7, hp7]; rfl
  let p9 := lifStep (View.readAt (Elt F) arg15.view (Rect.unit (s := S100x128) (k0_off2 k 8#32) S1x128.size (k0_off2_inb k 8)).toLoadRect X) p8
  have hp9 : p9 = lifFrom init (arg15.view.read (Elt F) X) (10 * k.val + 9) := by
    show lifStep _ _ = _
    rw [hr8, hp8]; rfl
  let p10 := lifStep (View.readAt (Elt F) arg15.view (Rect.unit (s := S100x128) (k0_off2 k 9#32) S1x128.size (k0_off2_inb k 9)).toLoadRect X) p9
  have hp10 : p10 = lifFrom init (arg15.view.read (Elt F) X) (10 * k.val + 10) := by
    show lifStep _ _ = _
    rw [hr9, hp9]; rfl
  have e : tripR_k0_t2 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v271 X k acc = p10 := by
    unfold tripR_k0_t2 trip_k0_t2
    rfl
  exact e.trans hp10

/-- One trip makes ten more rows right. -/
theorem rows_2 (𝒱 : Variants) (c : Dev nD) (bd : Option 𝒱.V) (arg0 : Memref sig .tc .vmem S100x78 .f32) (harg0 : arg0.IsWhole) (arg1 : Memref sig .tc .vmem S1x286 .i32) (harg1 : arg1.IsWhole) (arg2 : Memref sig .tc .vmem S1x286 .i32) (harg2 : arg2.IsWhole) (arg3 : Memref sig .tc .vmem S286x1 .i32) (harg3 : arg3.IsWhole) (arg4 : Memref sig .tc .vmem S8x64 .f32) (harg4 : arg4.IsWhole) (arg5 : Memref sig .tc .vmem S1x64 .f32) (harg5 : arg5.IsWhole) (arg6 : Memref sig .tc .vmem S128x2496 .f32) (harg6 : arg6.IsWhole) (arg7 : Memref sig .tc .vmem S1x128 .f32) (harg7 : arg7.IsWhole) (arg8 : Memref sig .tc .vmem S256x128 .f32) (harg8 : arg8.IsWhole) (arg9 : Memref sig .tc .vmem S1x256 .f32) (harg9 : arg9.IsWhole) (arg10 : Memref sig .tc .vmem S128x256 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S100x2496 .f32) (harg13 : arg13.IsWhole) (arg14 : Memref sig .tc .vmem S100x2496 .f32) (harg14 : arg14.IsWhole) (arg15 : Memref sig .tc .vmem S100x128 .f32) (harg15 : arg15.IsWhole) (arg16 : Memref sig .tc .vmem S100x128 .f32) (harg16 : arg16.IsWhole) (arg17 : Memref sig .tc .vmem S100x256 .f32) (harg17 : arg17.IsWhole) (arg18 : Memref sig .tc .vmem S100x256 .f32) (harg18 : arg18.IsWhole) (arg19 : Memref sig .tc .vmem S100x128 .f32) (harg19 : arg19.IsWhole) (v271 : FVec F S100x2496 .f32) (X : BufTy.Contents (Elt F) arg15.view.ty) (k : Fin k0_t2_loop.trips) (init acc : FVec F S1x128 .f32 × FVec F S1x128 .f32) (f : BufTy.Contents (Elt F) arg16.view.ty)
    (hacc : acc = lifFrom init (arg15.view.read (Elt F) X) (10 * k.val))
    (hf : Rows arg16.view init (arg15.view.read (Elt F) X) f (10 * k.val)) :
    Rows arg16.view init (arg15.view.read (Elt F) X)
      (arg16.view.writes (Elt F) f (tripL_k0_t2 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v271 X k acc)) (10 * k.val + 10) := by
  have hk : k.val < 10 := Nat.lt_of_lt_of_le k.isLt k0_t2_abs.2.1
  have hr0 : View.readAt (Elt F) arg15.view (Rect.unit (s := S100x128) (k0_off2 k 0#32) S1x128.size (k0_off2_inb k 0)).toLoadRect X = rowOf (arg15.view.read (Elt F) X) (10 * k.val + 0) :=
    readAt_row _ _ _ _ (by omega) (k0_off2_eq k 0)
  have hr1 : View.readAt (Elt F) arg15.view (Rect.unit (s := S100x128) (k0_off2 k 1#32) S1x128.size (k0_off2_inb k 1)).toLoadRect X = rowOf (arg15.view.read (Elt F) X) (10 * k.val + 1) :=
    readAt_row _ _ _ _ (by omega) (k0_off2_eq k 1)
  have hr2 : View.readAt (Elt F) arg15.view (Rect.unit (s := S100x128) (k0_off2 k 2#32) S1x128.size (k0_off2_inb k 2)).toLoadRect X = rowOf (arg15.view.read (Elt F) X) (10 * k.val + 2) :=
    readAt_row _ _ _ _ (by omega) (k0_off2_eq k 2)
  have hr3 : View.readAt (Elt F) arg15.view (Rect.unit (s := S100x128) (k0_off2 k 3#32) S1x128.size (k0_off2_inb k 3)).toLoadRect X = rowOf (arg15.view.read (Elt F) X) (10 * k.val + 3) :=
    readAt_row _ _ _ _ (by omega) (k0_off2_eq k 3)
  have hr4 : View.readAt (Elt F) arg15.view (Rect.unit (s := S100x128) (k0_off2 k 4#32) S1x128.size (k0_off2_inb k 4)).toLoadRect X = rowOf (arg15.view.read (Elt F) X) (10 * k.val + 4) :=
    readAt_row _ _ _ _ (by omega) (k0_off2_eq k 4)
  have hr5 : View.readAt (Elt F) arg15.view (Rect.unit (s := S100x128) (k0_off2 k 5#32) S1x128.size (k0_off2_inb k 5)).toLoadRect X = rowOf (arg15.view.read (Elt F) X) (10 * k.val + 5) :=
    readAt_row _ _ _ _ (by omega) (k0_off2_eq k 5)
  have hr6 : View.readAt (Elt F) arg15.view (Rect.unit (s := S100x128) (k0_off2 k 6#32) S1x128.size (k0_off2_inb k 6)).toLoadRect X = rowOf (arg15.view.read (Elt F) X) (10 * k.val + 6) :=
    readAt_row _ _ _ _ (by omega) (k0_off2_eq k 6)
  have hr7 : View.readAt (Elt F) arg15.view (Rect.unit (s := S100x128) (k0_off2 k 7#32) S1x128.size (k0_off2_inb k 7)).toLoadRect X = rowOf (arg15.view.read (Elt F) X) (10 * k.val + 7) :=
    readAt_row _ _ _ _ (by omega) (k0_off2_eq k 7)
  have hr8 : View.readAt (Elt F) arg15.view (Rect.unit (s := S100x128) (k0_off2 k 8#32) S1x128.size (k0_off2_inb k 8)).toLoadRect X = rowOf (arg15.view.read (Elt F) X) (10 * k.val + 8) :=
    readAt_row _ _ _ _ (by omega) (k0_off2_eq k 8)
  have hr9 : View.readAt (Elt F) arg15.view (Rect.unit (s := S100x128) (k0_off2 k 9#32) S1x128.size (k0_off2_inb k 9)).toLoadRect X = rowOf (arg15.view.read (Elt F) X) (10 * k.val + 9) :=
    readAt_row _ _ _ _ (by omega) (k0_off2_eq k 9)
  let p1 := lifStep (View.readAt (Elt F) arg15.view (Rect.unit (s := S100x128) (k0_off2 k 0#32) S1x128.size (k0_off2_inb k 0)).toLoadRect X) acc
  have hp1 : p1 = lifFrom init (arg15.view.read (Elt F) X) (10 * k.val + 1) := by
    show lifStep _ _ = _
    rw [hr0, hacc]; rfl
  let p2 := lifStep (View.readAt (Elt F) arg15.view (Rect.unit (s := S100x128) (k0_off2 k 1#32) S1x128.size (k0_off2_inb k 1)).toLoadRect X) p1
  have hp2 : p2 = lifFrom init (arg15.view.read (Elt F) X) (10 * k.val + 2) := by
    show lifStep _ _ = _
    rw [hr1, hp1]; rfl
  let p3 := lifStep (View.readAt (Elt F) arg15.view (Rect.unit (s := S100x128) (k0_off2 k 2#32) S1x128.size (k0_off2_inb k 2)).toLoadRect X) p2
  have hp3 : p3 = lifFrom init (arg15.view.read (Elt F) X) (10 * k.val + 3) := by
    show lifStep _ _ = _
    rw [hr2, hp2]; rfl
  let p4 := lifStep (View.readAt (Elt F) arg15.view (Rect.unit (s := S100x128) (k0_off2 k 3#32) S1x128.size (k0_off2_inb k 3)).toLoadRect X) p3
  have hp4 : p4 = lifFrom init (arg15.view.read (Elt F) X) (10 * k.val + 4) := by
    show lifStep _ _ = _
    rw [hr3, hp3]; rfl
  let p5 := lifStep (View.readAt (Elt F) arg15.view (Rect.unit (s := S100x128) (k0_off2 k 4#32) S1x128.size (k0_off2_inb k 4)).toLoadRect X) p4
  have hp5 : p5 = lifFrom init (arg15.view.read (Elt F) X) (10 * k.val + 5) := by
    show lifStep _ _ = _
    rw [hr4, hp4]; rfl
  let p6 := lifStep (View.readAt (Elt F) arg15.view (Rect.unit (s := S100x128) (k0_off2 k 5#32) S1x128.size (k0_off2_inb k 5)).toLoadRect X) p5
  have hp6 : p6 = lifFrom init (arg15.view.read (Elt F) X) (10 * k.val + 6) := by
    show lifStep _ _ = _
    rw [hr5, hp5]; rfl
  let p7 := lifStep (View.readAt (Elt F) arg15.view (Rect.unit (s := S100x128) (k0_off2 k 6#32) S1x128.size (k0_off2_inb k 6)).toLoadRect X) p6
  have hp7 : p7 = lifFrom init (arg15.view.read (Elt F) X) (10 * k.val + 7) := by
    show lifStep _ _ = _
    rw [hr6, hp6]; rfl
  let p8 := lifStep (View.readAt (Elt F) arg15.view (Rect.unit (s := S100x128) (k0_off2 k 7#32) S1x128.size (k0_off2_inb k 7)).toLoadRect X) p7
  have hp8 : p8 = lifFrom init (arg15.view.read (Elt F) X) (10 * k.val + 8) := by
    show lifStep _ _ = _
    rw [hr7, hp7]; rfl
  let p9 := lifStep (View.readAt (Elt F) arg15.view (Rect.unit (s := S100x128) (k0_off2 k 8#32) S1x128.size (k0_off2_inb k 8)).toLoadRect X) p8
  have hp9 : p9 = lifFrom init (arg15.view.read (Elt F) X) (10 * k.val + 9) := by
    show lifStep _ _ = _
    rw [hr8, hp8]; rfl
  let p10 := lifStep (View.readAt (Elt F) arg15.view (Rect.unit (s := S100x128) (k0_off2 k 9#32) S1x128.size (k0_off2_inb k 9)).toLoadRect X) p9
  have hp10 : p10 = lifFrom init (arg15.view.read (Elt F) X) (10 * k.val + 10) := by
    show lifStep _ _ = _
    rw [hr9, hp9]; rfl
  have e : tripL_k0_t2 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v271 X k acc
      = [⟨Rect.unit (s := S100x128) (k0_off2 k 9#32) S1x128.size (k0_off2_inb k 9), shapeCast S1x128 p10.2 shapeCasts_S1x128_S1x128⟩, ⟨Rect.unit (s := S100x128) (k0_off2 k 8#32) S1x128.size (k0_off2_inb k 8), shapeCast S1x128 p9.2 shapeCasts_S1x128_S1x128⟩, ⟨Rect.unit (s := S100x128) (k0_off2 k 7#32) S1x128.size (k0_off2_inb k 7), shapeCast S1x128 p8.2 shapeCasts_S1x128_S1x128⟩, ⟨Rect.unit (s := S100x128) (k0_off2 k 6#32) S1x128.size (k0_off2_inb k 6), shapeCast S1x128 p7.2 shapeCasts_S1x128_S1x128⟩, ⟨Rect.unit (s := S100x128) (k0_off2 k 5#32) S1x128.size (k0_off2_inb k 5), shapeCast S1x128 p6.2 shapeCasts_S1x128_S1x128⟩, ⟨Rect.unit (s := S100x128) (k0_off2 k 4#32) S1x128.size (k0_off2_inb k 4), shapeCast S1x128 p5.2 shapeCasts_S1x128_S1x128⟩, ⟨Rect.unit (s := S100x128) (k0_off2 k 3#32) S1x128.size (k0_off2_inb k 3), shapeCast S1x128 p4.2 shapeCasts_S1x128_S1x128⟩, ⟨Rect.unit (s := S100x128) (k0_off2 k 2#32) S1x128.size (k0_off2_inb k 2), shapeCast S1x128 p3.2 shapeCasts_S1x128_S1x128⟩, ⟨Rect.unit (s := S100x128) (k0_off2 k 1#32) S1x128.size (k0_off2_inb k 1), shapeCast S1x128 p2.2 shapeCasts_S1x128_S1x128⟩, ⟨Rect.unit (s := S100x128) (k0_off2 k 0#32) S1x128.size (k0_off2_inb k 0), shapeCast S1x128 p1.2 shapeCasts_S1x128_S1x128⟩] := by
    unfold tripL_k0_t2 trip_k0_t2
    rfl
  rw [e]
  refine Rows.push (t := 10 * k.val + 9) ?_ _ (k0_off2_eq k 9) _ (by rw [hp10]; exact shapeCast_self _ _)
  refine Rows.push (t := 10 * k.val + 8) ?_ _ (k0_off2_eq k 8) _ (by rw [hp9]; exact shapeCast_self _ _)
  refine Rows.push (t := 10 * k.val + 7) ?_ _ (k0_off2_eq k 7) _ (by rw [hp8]; exact shapeCast_self _ _)
  refine Rows.push (t := 10 * k.val + 6) ?_ _ (k0_off2_eq k 6) _ (by rw [hp7]; exact shapeCast_self _ _)
  refine Rows.push (t := 10 * k.val + 5) ?_ _ (k0_off2_eq k 5) _ (by rw [hp6]; exact shapeCast_self _ _)
  refine Rows.push (t := 10 * k.val + 4) ?_ _ (k0_off2_eq k 4) _ (by rw [hp5]; exact shapeCast_self _ _)
  refine Rows.push (t := 10 * k.val + 3) ?_ _ (k0_off2_eq k 3) _ (by rw [hp4]; exact shapeCast_self _ _)
  refine Rows.push (t := 10 * k.val + 2) ?_ _ (k0_off2_eq k 2) _ (by rw [hp3]; exact shapeCast_self _ _)
  refine Rows.push (t := 10 * k.val + 1) ?_ _ (k0_off2_eq k 1) _ (by rw [hp2]; exact shapeCast_self _ _)
  refine Rows.push (t := 10 * k.val + 0) ?_ _ (k0_off2_eq k 0) _ (by rw [hp1]; exact shapeCast_self _ _)
  rw [View.writes_nil]
  exact hf

end

section
variable {F : FTy → Type} [FloatOps F]

/-- Before trip `k`: the input buffer as it was, the first `10 k` rows of the output buffer holding the scan's spikes, and the carried value the scan's after `10 k` rows. -/
abbrev inv_2 (c : Dev nD) (arg15 : Memref sig .tc .vmem S100x128 .f32) (arg16 : Memref sig .tc .vmem S100x128 .f32) (X : BufTy.Contents (Elt F) arg15.view.ty) (init : FVec F S1x128 .f32 × FVec F S1x128 .f32) (k : ℕ) (acc : FVec F S1x128 .f32 × FVec F S1x128 .f32) : sProp (MT nD τ sig Unit (Elt F) ℕ (UR sig nD τ) ℕ) :=
  iprop((arg15.view.loc (c : Thread nD τ) ↦[arg15.view.set]{fullShare} X) ∗ (∃ f, (arg16.view.loc (c : Thread nD τ) ↦[arg16.view.set]{fullShare} f) ∗ ⌜RowsTo arg16.view init (arg15.view.read (Elt F) X) f (10 * k) = True⌝) ∗ ⌜acc = lifFrom init (arg15.view.read (Elt F) X) (10 * k)⌝)

/-- One trip of the loop's region takes the invariant to the next trip. -/
theorem step_2 [Named F] (𝒱 : Variants) (c : Dev nD) (bd : Option 𝒱.V) (E : Set ℕ) (arg0 : Memref sig .tc .vmem S100x78 .f32) (harg0 : arg0.IsWhole) (arg1 : Memref sig .tc .vmem S1x286 .i32) (harg1 : arg1.IsWhole) (arg2 : Memref sig .tc .vmem S1x286 .i32) (harg2 : arg2.IsWhole) (arg3 : Memref sig .tc .vmem S286x1 .i32) (harg3 : arg3.IsWhole) (arg4 : Memref sig .tc .vmem S8x64 .f32) (harg4 : arg4.IsWhole) (arg5 : Memref sig .tc .vmem S1x64 .f32) (harg5 : arg5.IsWhole) (arg6 : Memref sig .tc .vmem S128x2496 .f32) (harg6 : arg6.IsWhole) (arg7 : Memref sig .tc .vmem S1x128 .f32) (harg7 : arg7.IsWhole) (arg8 : Memref sig .tc .vmem S256x128 .f32) (harg8 : arg8.IsWhole) (arg9 : Memref sig .tc .vmem S1x256 .f32) (harg9 : arg9.IsWhole) (arg10 : Memref sig .tc .vmem S128x256 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S100x2496 .f32) (harg13 : arg13.IsWhole) (arg14 : Memref sig .tc .vmem S100x2496 .f32) (harg14 : arg14.IsWhole) (arg15 : Memref sig .tc .vmem S100x128 .f32) (harg15 : arg15.IsWhole) (arg16 : Memref sig .tc .vmem S100x128 .f32) (harg16 : arg16.IsWhole) (arg17 : Memref sig .tc .vmem S100x256 .f32) (harg17 : arg17.IsWhole) (arg18 : Memref sig .tc .vmem S100x256 .f32) (harg18 : arg18.IsWhole) (arg19 : Memref sig .tc .vmem S100x128 .f32) (harg19 : arg19.IsWhole) (v271 : FVec F S100x2496 .f32) (X : BufTy.Contents (Elt F) arg15.view.ty) (init : FVec F S1x128 .f32 × FVec F S1x128 .f32) (k : Fin k0_t2_loop.trips) (acc : FVec F S1x128 .f32 × FVec F S1x128 .f32) :
    inv_2 (F := F) c arg15 arg16 X init k.val acc ⊢ wp frame (wpE (defs₀ (F := F)) 𝒱 (c : Thread nD τ) bd) E (k0_t2_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v271 k acc)
      (inv_2 (F := F) c arg15 arg16 X init (k.val + 1)) := by
  iintro ⟨HR, ⟨%f, HW, %hf⟩, %hacc⟩
  iapply (wp_wand_r Idealize.ShloMosaic.frame (wpE defs₀ 𝒱 (c : Thread nD τ) bd) E)
  isplitl [HR HW]
  · iapply ((trip_k0_t2 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v271 X k).2.2 E acc f)
    isplitl [HR]; · iexact HR
    iexact HW
  · iintro %yld ⟨%h_res, HR, HW⟩
    isplitl [HR]; · iexact HR
    isplitl [HW]
    · iexists _; isplitl [HW]; · iexact HW
      ipureintro
      exact (rowsTo_eq_true ..).mpr (rows_2 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v271 X k init acc f hacc ((rowsTo_eq_true ..).mp hf))
    ipureintro
    exact h_res.trans (carried_2 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v271 X k init acc hacc)

set_option warn.classDefReducibility false in
/-- The loop by its invariant. -/
@[sl_loop] def loopInv_2 (𝒱 : Variants) (c : Dev nD) (bd : Option 𝒱.V) (E : Set ℕ) (arg0 : Memref sig .tc .vmem S100x78 .f32) (harg0 : arg0.IsWhole) (arg1 : Memref sig .tc .vmem S1x286 .i32) (harg1 : arg1.IsWhole) (arg2 : Memref sig .tc .vmem S1x286 .i32) (harg2 : arg2.IsWhole) (arg3 : Memref sig .tc .vmem S286x1 .i32) (harg3 : arg3.IsWhole) (arg4 : Memref sig .tc .vmem S8x64 .f32) (harg4 : arg4.IsWhole) (arg5 : Memref sig .tc .vmem S1x64 .f32) (harg5 : arg5.IsWhole) (arg6 : Memref sig .tc .vmem S128x2496 .f32) (harg6 : arg6.IsWhole) (arg7 : Memref sig .tc .vmem S1x128 .f32) (harg7 : arg7.IsWhole) (arg8 : Memref sig .tc .vmem S256x128 .f32) (harg8 : arg8.IsWhole) (arg9 : Memref sig .tc .vmem S1x256 .f32) (harg9 : arg9.IsWhole) (arg10 : Memref sig .tc .vmem S128x256 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S100x2496 .f32) (harg13 : arg13.IsWhole) (arg14 : Memref sig .tc .vmem S100x2496 .f32) (harg14 : arg14.IsWhole) (arg15 : Memref sig .tc .vmem S100x128 .f32) (harg15 : arg15.IsWhole) (arg16 : Memref sig .tc .vmem S100x128 .f32) (harg16 : arg16.IsWhole) (arg17 : Memref sig .tc .vmem S100x256 .f32) (harg17 : arg17.IsWhole) (arg18 : Memref sig .tc .vmem S100x256 .f32) (harg18 : arg18.IsWhole) (arg19 : Memref sig .tc .vmem S100x128 .f32) (harg19 : arg19.IsWhole) (X : BufTy.Contents (Elt Ideal) arg15.view.ty) (init : FVec Ideal S1x128 .f32 × FVec Ideal S1x128 .f32) :
    LoopInv (M := MT nD τ sig Unit (Elt Ideal) ℕ (UR sig nD τ) ℕ) Idealize.ShloMosaic.frame (wpE (defs₀ (F := Ideal)) 𝒱 (c : Thread nD τ) bd) E
      k0_t2_loop.lb k0_t2_loop.ub k0_t2_loop.st k0_t2_ok init (k0_t2_body (F := Ideal) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (constant S100x2496 .f32 0#32)) where
  inv := inv_2 (F := Ideal) c arg15 arg16 X init
  step k acc := by
    exact step_2 (F := Ideal)  𝒱 c bd E arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (constant S100x2496 .f32 0#32) X init k acc

set_option warn.classDefReducibility false in
/-- After the loop: the output buffer holds the matrix of the spikes. -/
def loopExit_2 (𝒱 : Variants) (c : Dev nD) (bd : Option 𝒱.V) (E : Set ℕ) (arg0 : Memref sig .tc .vmem S100x78 .f32) (harg0 : arg0.IsWhole) (arg1 : Memref sig .tc .vmem S1x286 .i32) (harg1 : arg1.IsWhole) (arg2 : Memref sig .tc .vmem S1x286 .i32) (harg2 : arg2.IsWhole) (arg3 : Memref sig .tc .vmem S286x1 .i32) (harg3 : arg3.IsWhole) (arg4 : Memref sig .tc .vmem S8x64 .f32) (harg4 : arg4.IsWhole) (arg5 : Memref sig .tc .vmem S1x64 .f32) (harg5 : arg5.IsWhole) (arg6 : Memref sig .tc .vmem S128x2496 .f32) (harg6 : arg6.IsWhole) (arg7 : Memref sig .tc .vmem S1x128 .f32) (harg7 : arg7.IsWhole) (arg8 : Memref sig .tc .vmem S256x128 .f32) (harg8 : arg8.IsWhole) (arg9 : Memref sig .tc .vmem S1x256 .f32) (harg9 : arg9.IsWhole) (arg10 : Memref sig .tc .vmem S128x256 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S100x2496 .f32) (harg13 : arg13.IsWhole) (arg14 : Memref sig .tc .vmem S100x2496 .f32) (harg14 : arg14.IsWhole) (arg15 : Memref sig .tc .vmem S100x128 .f32) (harg15 : arg15.IsWhole) (arg16 : Memref sig .tc .vmem S100x128 .f32) (harg16 : arg16.IsWhole) (arg17 : Memref sig .tc .vmem S100x256 .f32) (harg17 : arg17.IsWhole) (arg18 : Memref sig .tc .vmem S100x256 .f32) (harg18 : arg18.IsWhole) (arg19 : Memref sig .tc .vmem S100x128 .f32) (harg19 : arg19.IsWhole) (X : BufTy.Contents (Elt Ideal) arg15.view.ty) (init : FVec Ideal S1x128 .f32 × FVec Ideal S1x128 .f32) :
    LoopExit (loopInv_2 𝒱 c bd E arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X init) where
  post acc := iprop((arg15.view.loc (c : Thread nD τ) ↦[arg15.view.set]{fullShare} X) ∗ (arg16.view.loc (c : Thread nD τ) ↦[arg16.view.set]{fullShare} (harg16.unread (spikesFrom init (arg15.view.read (Elt Ideal) X)))))
  exit acc := by
    show inv_2 (F := Ideal) c arg15 arg16 X init _ acc ⊢ _
    iintro ⟨HR, ⟨%f, HW, %hf⟩, %hacc⟩
    obtain rfl := harg16.eq_unread (((rowsTo_eq_true ..).mp hf).all (congrArg (10 * ·) trips_2))
    isplitl [HR]; · iexact HR
    iexact HW

end

end Cert.KernelIdeal.Scan

end
-- ==== Proof.Loop3.lean ====
module
public import proofs.«01_k».proof.Proof.Gen.KernelIdeal.Loops
public import proofs.«01_k».proof.Proof.Lif

/-!
The third spiking loop: it scans the second hidden layer's rows.
-/

@[expose] public section

set_option maxRecDepth 16384
set_option maxHeartbeats 4000000

noncomputable section

namespace Cert.KernelIdeal.Scan

open Cert.KernelIdeal.Gen Cert.KernelIdeal.Lif
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! ### Loop 3 -/

/-- The loop makes ten trips. -/
theorem trips_3 : k0_t3_loop.trips = 10 := by decide

section
variable {F : FTy → Type} [FloatOps F] [Named F]

/-- One trip advances the carried pair by ten rows. -/
theorem carried_3 (𝒱 : Variants) (c : Dev nD) (bd : Option 𝒱.V) (arg0 : Memref sig .tc .vmem S100x78 .f32) (harg0 : arg0.IsWhole) (arg1 : Memref sig .tc .vmem S1x286 .i32) (harg1 : arg1.IsWhole) (arg2 : Memref sig .tc .vmem S1x286 .i32) (harg2 : arg2.IsWhole) (arg3 : Memref sig .tc .vmem S286x1 .i32) (harg3 : arg3.IsWhole) (arg4 : Memref sig .tc .vmem S8x64 .f32) (harg4 : arg4.IsWhole) (arg5 : Memref sig .tc .vmem S1x64 .f32) (harg5 : arg5.IsWhole) (arg6 : Memref sig .tc .vmem S128x2496 .f32) (harg6 : arg6.IsWhole) (arg7 : Memref sig .tc .vmem S1x128 .f32) (harg7 : arg7.IsWhole) (arg8 : Memref sig .tc .vmem S256x128 .f32) (harg8 : arg8.IsWhole) (arg9 : Memref sig .tc .vmem S1x256 .f32) (harg9 : arg9.IsWhole) (arg10 : Memref sig .tc .vmem S128x256 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S100x2496 .f32) (harg13 : arg13.IsWhole) (arg14 : Memref sig .tc .vmem S100x2496 .f32) (harg14 : arg14.IsWhole) (arg15 : Memref sig .tc .vmem S100x128 .f32) (harg15 : arg15.IsWhole) (arg16 : Memref sig .tc .vmem S100x128 .f32) (harg16 : arg16.IsWhole) (arg17 : Memref sig .tc .vmem S100x256 .f32) (harg17 : arg17.IsWhole) (arg18 : Memref sig .tc .vmem S100x256 .f32) (harg18 : arg18.IsWhole) (arg19 : Memref sig .tc .vmem S100x128 .f32) (harg19 : arg19.IsWhole) (X : BufTy.Contents (Elt F) arg17.view.ty) (k : Fin k0_t3_loop.trips) (init acc : FVec F S1x256 .f32 × FVec F S1x256 .f32)
    (hacc : acc = lifFrom init (arg17.view.read (Elt F) X) (10 * k.val)) :
    tripR_k0_t3 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X k acc = lifFrom init (arg17.view.read (Elt F) X) (10 * k.val + 10) := by
  have hk : k.val < 10 := Nat.lt_of_lt_of_le k.isLt k0_t3_abs.2.1
  have hr0 : View.readAt (Elt F) arg17.view (Rect.unit (s := S100x256) (k0_off3 k 0#32) S1x256.size (k0_off3_inb k 0)).toLoadRect X = rowOf (arg17.view.read (Elt F) X) (10 * k.val + 0) :=
    readAt_row _ _ _ _ (by omega) (k0_off3_eq k 0)
  have hr1 : View.readAt (Elt F) arg17.view (Rect.unit (s := S100x256) (k0_off3 k 1#32) S1x256.size (k0_off3_inb k 1)).toLoadRect X = rowOf (arg17.view.read (Elt F) X) (10 * k.val + 1) :=
    readAt_row _ _ _ _ (by omega) (k0_off3_eq k 1)
  have hr2 : View.readAt (Elt F) arg17.view (Rect.unit (s := S100x256) (k0_off3 k 2#32) S1x256.size (k0_off3_inb k 2)).toLoadRect X = rowOf (arg17.view.read (Elt F) X) (10 * k.val + 2) :=
    readAt_row _ _ _ _ (by omega) (k0_off3_eq k 2)
  have hr3 : View.readAt (Elt F) arg17.view (Rect.unit (s := S100x256) (k0_off3 k 3#32) S1x256.size (k0_off3_inb k 3)).toLoadRect X = rowOf (arg17.view.read (Elt F) X) (10 * k.val + 3) :=
    readAt_row _ _ _ _ (by omega) (k0_off3_eq k 3)
  have hr4 : View.readAt (Elt F) arg17.view (Rect.unit (s := S100x256) (k0_off3 k 4#32) S1x256.size (k0_off3_inb k 4)).toLoadRect X = rowOf (arg17.view.read (Elt F) X) (10 * k.val + 4) :=
    readAt_row _ _ _ _ (by omega) (k0_off3_eq k 4)
  have hr5 : View.readAt (Elt F) arg17.view (Rect.unit (s := S100x256) (k0_off3 k 5#32) S1x256.size (k0_off3_inb k 5)).toLoadRect X = rowOf (arg17.view.read (Elt F) X) (10 * k.val + 5) :=
    readAt_row _ _ _ _ (by omega) (k0_off3_eq k 5)
  have hr6 : View.readAt (Elt F) arg17.view (Rect.unit (s := S100x256) (k0_off3 k 6#32) S1x256.size (k0_off3_inb k 6)).toLoadRect X = rowOf (arg17.view.read (Elt F) X) (10 * k.val + 6) :=
    readAt_row _ _ _ _ (by omega) (k0_off3_eq k 6)
  have hr7 : View.readAt (Elt F) arg17.view (Rect.unit (s := S100x256) (k0_off3 k 7#32) S1x256.size (k0_off3_inb k 7)).toLoadRect X = rowOf (arg17.view.read (Elt F) X) (10 * k.val + 7) :=
    readAt_row _ _ _ _ (by omega) (k0_off3_eq k 7)
  have hr8 : View.readAt (Elt F) arg17.view (Rect.unit (s := S100x256) (k0_off3 k 8#32) S1x256.size (k0_off3_inb k 8)).toLoadRect X = rowOf (arg17.view.read (Elt F) X) (10 * k.val + 8) :=
    readAt_row _ _ _ _ (by omega) (k0_off3_eq k 8)
  have hr9 : View.readAt (Elt F) arg17.view (Rect.unit (s := S100x256) (k0_off3 k 9#32) S1x256.size (k0_off3_inb k 9)).toLoadRect X = rowOf (arg17.view.read (Elt F) X) (10 * k.val + 9) :=
    readAt_row _ _ _ _ (by omega) (k0_off3_eq k 9)
  let p1 := lifStep (View.readAt (Elt F) arg17.view (Rect.unit (s := S100x256) (k0_off3 k 0#32) S1x256.size (k0_off3_inb k 0)).toLoadRect X) acc
  have hp1 : p1 = lifFrom init (arg17.view.read (Elt F) X) (10 * k.val + 1) := by
    show lifStep _ _ = _
    rw [hr0, hacc]; rfl
  let p2 := lifStep (View.readAt (Elt F) arg17.view (Rect.unit (s := S100x256) (k0_off3 k 1#32) S1x256.size (k0_off3_inb k 1)).toLoadRect X) p1
  have hp2 : p2 = lifFrom init (arg17.view.read (Elt F) X) (10 * k.val + 2) := by
    show lifStep _ _ = _
    rw [hr1, hp1]; rfl
  let p3 := lifStep (View.readAt (Elt F) arg17.view (Rect.unit (s := S100x256) (k0_off3 k 2#32) S1x256.size (k0_off3_inb k 2)).toLoadRect X) p2
  have hp3 : p3 = lifFrom init (arg17.view.read (Elt F) X) (10 * k.val + 3) := by
    show lifStep _ _ = _
    rw [hr2, hp2]; rfl
  let p4 := lifStep (View.readAt (Elt F) arg17.view (Rect.unit (s := S100x256) (k0_off3 k 3#32) S1x256.size (k0_off3_inb k 3)).toLoadRect X) p3
  have hp4 : p4 = lifFrom init (arg17.view.read (Elt F) X) (10 * k.val + 4) := by
    show lifStep _ _ = _
    rw [hr3, hp3]; rfl
  let p5 := lifStep (View.readAt (Elt F) arg17.view (Rect.unit (s := S100x256) (k0_off3 k 4#32) S1x256.size (k0_off3_inb k 4)).toLoadRect X) p4
  have hp5 : p5 = lifFrom init (arg17.view.read (Elt F) X) (10 * k.val + 5) := by
    show lifStep _ _ = _
    rw [hr4, hp4]; rfl
  let p6 := lifStep (View.readAt (Elt F) arg17.view (Rect.unit (s := S100x256) (k0_off3 k 5#32) S1x256.size (k0_off3_inb k 5)).toLoadRect X) p5
  have hp6 : p6 = lifFrom init (arg17.view.read (Elt F) X) (10 * k.val + 6) := by
    show lifStep _ _ = _
    rw [hr5, hp5]; rfl
  let p7 := lifStep (View.readAt (Elt F) arg17.view (Rect.unit (s := S100x256) (k0_off3 k 6#32) S1x256.size (k0_off3_inb k 6)).toLoadRect X) p6
  have hp7 : p7 = lifFrom init (arg17.view.read (Elt F) X) (10 * k.val + 7) := by
    show lifStep _ _ = _
    rw [hr6, hp6]; rfl
  let p8 := lifStep (View.readAt (Elt F) arg17.view (Rect.unit (s := S100x256) (k0_off3 k 7#32) S1x256.size (k0_off3_inb k 7)).toLoadRect X) p7
  have hp8 : p8 = lifFrom init (arg17.view.read (Elt F) X) (10 * k.val + 8) := by
    show lifStep _ _ = _
    rw [hr7, hp7]; rfl
  let p9 := lifStep (View.readAt (Elt F) arg17.view (Rect.unit (s := S100x256) (k0_off3 k 8#32) S1x256.size (k0_off3_inb k 8)).toLoadRect X) p8
  have hp9 : p9 = lifFrom init (arg17.view.read (Elt F) X) (10 * k.val + 9) := by
    show lifStep _ _ = _
    rw [hr8, hp8]; rfl
  let p10 := lifStep (View.readAt (Elt F) arg17.view (Rect.unit (s := S100x256) (k0_off3 k 9#32) S1x256.size (k0_off3_inb k 9)).toLoadRect X) p9
  have hp10 : p10 = lifFrom init (arg17.view.read (Elt F) X) (10 * k.val + 10) := by
    show lifStep _ _ = _
    rw [hr9, hp9]; rfl
  have e : tripR_k0_t3 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X k acc = p10 := by
    unfold tripR_k0_t3 trip_k0_t3
    rfl
  exact e.trans hp10

/-- One trip makes ten more rows right. -/
theorem rows_3 (𝒱 : Variants) (c : Dev nD) (bd : Option 𝒱.V) (arg0 : Memref sig .tc .vmem S100x78 .f32) (harg0 : arg0.IsWhole) (arg1 : Memref sig .tc .vmem S1x286 .i32) (harg1 : arg1.IsWhole) (arg2 : Memref sig .tc .vmem S1x286 .i32) (harg2 : arg2.IsWhole) (arg3 : Memref sig .tc .vmem S286x1 .i32) (harg3 : arg3.IsWhole) (arg4 : Memref sig .tc .vmem S8x64 .f32) (harg4 : arg4.IsWhole) (arg5 : Memref sig .tc .vmem S1x64 .f32) (harg5 : arg5.IsWhole) (arg6 : Memref sig .tc .vmem S128x2496 .f32) (harg6 : arg6.IsWhole) (arg7 : Memref sig .tc .vmem S1x128 .f32) (harg7 : arg7.IsWhole) (arg8 : Memref sig .tc .vmem S256x128 .f32) (harg8 : arg8.IsWhole) (arg9 : Memref sig .tc .vmem S1x256 .f32) (harg9 : arg9.IsWhole) (arg10 : Memref sig .tc .vmem S128x256 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S100x2496 .f32) (harg13 : arg13.IsWhole) (arg14 : Memref sig .tc .vmem S100x2496 .f32) (harg14 : arg14.IsWhole) (arg15 : Memref sig .tc .vmem S100x128 .f32) (harg15 : arg15.IsWhole) (arg16 : Memref sig .tc .vmem S100x128 .f32) (harg16 : arg16.IsWhole) (arg17 : Memref sig .tc .vmem S100x256 .f32) (harg17 : arg17.IsWhole) (arg18 : Memref sig .tc .vmem S100x256 .f32) (harg18 : arg18.IsWhole) (arg19 : Memref sig .tc .vmem S100x128 .f32) (harg19 : arg19.IsWhole) (X : BufTy.Contents (Elt F) arg17.view.ty) (k : Fin k0_t3_loop.trips) (init acc : FVec F S1x256 .f32 × FVec F S1x256 .f32) (f : BufTy.Contents (Elt F) arg18.view.ty)
    (hacc : acc = lifFrom init (arg17.view.read (Elt F) X) (10 * k.val))
    (hf : Rows arg18.view init (arg17.view.read (Elt F) X) f (10 * k.val)) :
    Rows arg18.view init (arg17.view.read (Elt F) X)
      (arg18.view.writes (Elt F) f (tripL_k0_t3 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X k acc)) (10 * k.val + 10) := by
  have hk : k.val < 10 := Nat.lt_of_lt_of_le k.isLt k0_t3_abs.2.1
  have hr0 : View.readAt (Elt F) arg17.view (Rect.unit (s := S100x256) (k0_off3 k 0#32) S1x256.size (k0_off3_inb k 0)).toLoadRect X = rowOf (arg17.view.read (Elt F) X) (10 * k.val + 0) :=
    readAt_row _ _ _ _ (by omega) (k0_off3_eq k 0)
  have hr1 : View.readAt (Elt F) arg17.view (Rect.unit (s := S100x256) (k0_off3 k 1#32) S1x256.size (k0_off3_inb k 1)).toLoadRect X = rowOf (arg17.view.read (Elt F) X) (10 * k.val + 1) :=
    readAt_row _ _ _ _ (by omega) (k0_off3_eq k 1)
  have hr2 : View.readAt (Elt F) arg17.view (Rect.unit (s := S100x256) (k0_off3 k 2#32) S1x256.size (k0_off3_inb k 2)).toLoadRect X = rowOf (arg17.view.read (Elt F) X) (10 * k.val + 2) :=
    readAt_row _ _ _ _ (by omega) (k0_off3_eq k 2)
  have hr3 : View.readAt (Elt F) arg17.view (Rect.unit (s := S100x256) (k0_off3 k 3#32) S1x256.size (k0_off3_inb k 3)).toLoadRect X = rowOf (arg17.view.read (Elt F) X) (10 * k.val + 3) :=
    readAt_row _ _ _ _ (by omega) (k0_off3_eq k 3)
  have hr4 : View.readAt (Elt F) arg17.view (Rect.unit (s := S100x256) (k0_off3 k 4#32) S1x256.size (k0_off3_inb k 4)).toLoadRect X = rowOf (arg17.view.read (Elt F) X) (10 * k.val + 4) :=
    readAt_row _ _ _ _ (by omega) (k0_off3_eq k 4)
  have hr5 : View.readAt (Elt F) arg17.view (Rect.unit (s := S100x256) (k0_off3 k 5#32) S1x256.size (k0_off3_inb k 5)).toLoadRect X = rowOf (arg17.view.read (Elt F) X) (10 * k.val + 5) :=
    readAt_row _ _ _ _ (by omega) (k0_off3_eq k 5)
  have hr6 : View.readAt (Elt F) arg17.view (Rect.unit (s := S100x256) (k0_off3 k 6#32) S1x256.size (k0_off3_inb k 6)).toLoadRect X = rowOf (arg17.view.read (Elt F) X) (10 * k.val + 6) :=
    readAt_row _ _ _ _ (by omega) (k0_off3_eq k 6)
  have hr7 : View.readAt (Elt F) arg17.view (Rect.unit (s := S100x256) (k0_off3 k 7#32) S1x256.size (k0_off3_inb k 7)).toLoadRect X = rowOf (arg17.view.read (Elt F) X) (10 * k.val + 7) :=
    readAt_row _ _ _ _ (by omega) (k0_off3_eq k 7)
  have hr8 : View.readAt (Elt F) arg17.view (Rect.unit (s := S100x256) (k0_off3 k 8#32) S1x256.size (k0_off3_inb k 8)).toLoadRect X = rowOf (arg17.view.read (Elt F) X) (10 * k.val + 8) :=
    readAt_row _ _ _ _ (by omega) (k0_off3_eq k 8)
  have hr9 : View.readAt (Elt F) arg17.view (Rect.unit (s := S100x256) (k0_off3 k 9#32) S1x256.size (k0_off3_inb k 9)).toLoadRect X = rowOf (arg17.view.read (Elt F) X) (10 * k.val + 9) :=
    readAt_row _ _ _ _ (by omega) (k0_off3_eq k 9)
  let p1 := lifStep (View.readAt (Elt F) arg17.view (Rect.unit (s := S100x256) (k0_off3 k 0#32) S1x256.size (k0_off3_inb k 0)).toLoadRect X) acc
  have hp1 : p1 = lifFrom init (arg17.view.read (Elt F) X) (10 * k.val + 1) := by
    show lifStep _ _ = _
    rw [hr0, hacc]; rfl
  let p2 := lifStep (View.readAt (Elt F) arg17.view (Rect.unit (s := S100x256) (k0_off3 k 1#32) S1x256.size (k0_off3_inb k 1)).toLoadRect X) p1
  have hp2 : p2 = lifFrom init (arg17.view.read (Elt F) X) (10 * k.val + 2) := by
    show lifStep _ _ = _
    rw [hr1, hp1]; rfl
  let p3 := lifStep (View.readAt (Elt F) arg17.view (Rect.unit (s := S100x256) (k0_off3 k 2#32) S1x256.size (k0_off3_inb k 2)).toLoadRect X) p2
  have hp3 : p3 = lifFrom init (arg17.view.read (Elt F) X) (10 * k.val + 3) := by
    show lifStep _ _ = _
    rw [hr2, hp2]; rfl
  let p4 := lifStep (View.readAt (Elt F) arg17.view (Rect.unit (s := S100x256) (k0_off3 k 3#32) S1x256.size (k0_off3_inb k 3)).toLoadRect X) p3
  have hp4 : p4 = lifFrom init (arg17.view.read (Elt F) X) (10 * k.val + 4) := by
    show lifStep _ _ = _
    rw [hr3, hp3]; rfl
  let p5 := lifStep (View.readAt (Elt F) arg17.view (Rect.unit (s := S100x256) (k0_off3 k 4#32) S1x256.size (k0_off3_inb k 4)).toLoadRect X) p4
  have hp5 : p5 = lifFrom init (arg17.view.read (Elt F) X) (10 * k.val + 5) := by
    show lifStep _ _ = _
    rw [hr4, hp4]; rfl
  let p6 := lifStep (View.readAt (Elt F) arg17.view (Rect.unit (s := S100x256) (k0_off3 k 5#32) S1x256.size (k0_off3_inb k 5)).toLoadRect X) p5
  have hp6 : p6 = lifFrom init (arg17.view.read (Elt F) X) (10 * k.val + 6) := by
    show lifStep _ _ = _
    rw [hr5, hp5]; rfl
  let p7 := lifStep (View.readAt (Elt F) arg17.view (Rect.unit (s := S100x256) (k0_off3 k 6#32) S1x256.size (k0_off3_inb k 6)).toLoadRect X) p6
  have hp7 : p7 = lifFrom init (arg17.view.read (Elt F) X) (10 * k.val + 7) := by
    show lifStep _ _ = _
    rw [hr6, hp6]; rfl
  let p8 := lifStep (View.readAt (Elt F) arg17.view (Rect.unit (s := S100x256) (k0_off3 k 7#32) S1x256.size (k0_off3_inb k 7)).toLoadRect X) p7
  have hp8 : p8 = lifFrom init (arg17.view.read (Elt F) X) (10 * k.val + 8) := by
    show lifStep _ _ = _
    rw [hr7, hp7]; rfl
  let p9 := lifStep (View.readAt (Elt F) arg17.view (Rect.unit (s := S100x256) (k0_off3 k 8#32) S1x256.size (k0_off3_inb k 8)).toLoadRect X) p8
  have hp9 : p9 = lifFrom init (arg17.view.read (Elt F) X) (10 * k.val + 9) := by
    show lifStep _ _ = _
    rw [hr8, hp8]; rfl
  let p10 := lifStep (View.readAt (Elt F) arg17.view (Rect.unit (s := S100x256) (k0_off3 k 9#32) S1x256.size (k0_off3_inb k 9)).toLoadRect X) p9
  have hp10 : p10 = lifFrom init (arg17.view.read (Elt F) X) (10 * k.val + 10) := by
    show lifStep _ _ = _
    rw [hr9, hp9]; rfl
  have e : tripL_k0_t3 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X k acc
      = [⟨Rect.unit (s := S100x256) (k0_off3 k 9#32) S1x256.size (k0_off3_inb k 9), shapeCast S1x256 p10.2 shapeCasts_S1x256_S1x256⟩, ⟨Rect.unit (s := S100x256) (k0_off3 k 8#32) S1x256.size (k0_off3_inb k 8), shapeCast S1x256 p9.2 shapeCasts_S1x256_S1x256⟩, ⟨Rect.unit (s := S100x256) (k0_off3 k 7#32) S1x256.size (k0_off3_inb k 7), shapeCast S1x256 p8.2 shapeCasts_S1x256_S1x256⟩, ⟨Rect.unit (s := S100x256) (k0_off3 k 6#32) S1x256.size (k0_off3_inb k 6), shapeCast S1x256 p7.2 shapeCasts_S1x256_S1x256⟩, ⟨Rect.unit (s := S100x256) (k0_off3 k 5#32) S1x256.size (k0_off3_inb k 5), shapeCast S1x256 p6.2 shapeCasts_S1x256_S1x256⟩, ⟨Rect.unit (s := S100x256) (k0_off3 k 4#32) S1x256.size (k0_off3_inb k 4), shapeCast S1x256 p5.2 shapeCasts_S1x256_S1x256⟩, ⟨Rect.unit (s := S100x256) (k0_off3 k 3#32) S1x256.size (k0_off3_inb k 3), shapeCast S1x256 p4.2 shapeCasts_S1x256_S1x256⟩, ⟨Rect.unit (s := S100x256) (k0_off3 k 2#32) S1x256.size (k0_off3_inb k 2), shapeCast S1x256 p3.2 shapeCasts_S1x256_S1x256⟩, ⟨Rect.unit (s := S100x256) (k0_off3 k 1#32) S1x256.size (k0_off3_inb k 1), shapeCast S1x256 p2.2 shapeCasts_S1x256_S1x256⟩, ⟨Rect.unit (s := S100x256) (k0_off3 k 0#32) S1x256.size (k0_off3_inb k 0), shapeCast S1x256 p1.2 shapeCasts_S1x256_S1x256⟩] := by
    unfold tripL_k0_t3 trip_k0_t3
    rfl
  rw [e]
  refine Rows.push (t := 10 * k.val + 9) ?_ _ (k0_off3_eq k 9) _ (by rw [hp10]; exact shapeCast_self _ _)
  refine Rows.push (t := 10 * k.val + 8) ?_ _ (k0_off3_eq k 8) _ (by rw [hp9]; exact shapeCast_self _ _)
  refine Rows.push (t := 10 * k.val + 7) ?_ _ (k0_off3_eq k 7) _ (by rw [hp8]; exact shapeCast_self _ _)
  refine Rows.push (t := 10 * k.val + 6) ?_ _ (k0_off3_eq k 6) _ (by rw [hp7]; exact shapeCast_self _ _)
  refine Rows.push (t := 10 * k.val + 5) ?_ _ (k0_off3_eq k 5) _ (by rw [hp6]; exact shapeCast_self _ _)
  refine Rows.push (t := 10 * k.val + 4) ?_ _ (k0_off3_eq k 4) _ (by rw [hp5]; exact shapeCast_self _ _)
  refine Rows.push (t := 10 * k.val + 3) ?_ _ (k0_off3_eq k 3) _ (by rw [hp4]; exact shapeCast_self _ _)
  refine Rows.push (t := 10 * k.val + 2) ?_ _ (k0_off3_eq k 2) _ (by rw [hp3]; exact shapeCast_self _ _)
  refine Rows.push (t := 10 * k.val + 1) ?_ _ (k0_off3_eq k 1) _ (by rw [hp2]; exact shapeCast_self _ _)
  refine Rows.push (t := 10 * k.val + 0) ?_ _ (k0_off3_eq k 0) _ (by rw [hp1]; exact shapeCast_self _ _)
  rw [View.writes_nil]
  exact hf

end

section
variable {F : FTy → Type} [FloatOps F]

/-- Before trip `k`: the input buffer as it was, the first `10 k` rows of the output buffer holding the scan's spikes, and the carried value the scan's after `10 k` rows. -/
abbrev inv_3 (c : Dev nD) (arg17 : Memref sig .tc .vmem S100x256 .f32) (arg18 : Memref sig .tc .vmem S100x256 .f32) (X : BufTy.Contents (Elt F) arg17.view.ty) (init : FVec F S1x256 .f32 × FVec F S1x256 .f32) (k : ℕ) (acc : FVec F S1x256 .f32 × FVec F S1x256 .f32) : sProp (MT nD τ sig Unit (Elt F) ℕ (UR sig nD τ) ℕ) :=
  iprop((arg17.view.loc (c : Thread nD τ) ↦[arg17.view.set]{fullShare} X) ∗ (∃ f, (arg18.view.loc (c : Thread nD τ) ↦[arg18.view.set]{fullShare} f) ∗ ⌜RowsTo arg18.view init (arg17.view.read (Elt F) X) f (10 * k) = True⌝) ∗ ⌜acc = lifFrom init (arg17.view.read (Elt F) X) (10 * k)⌝)

/-- One trip of the loop's region takes the invariant to the next trip. -/
theorem step_3 [Named F] (𝒱 : Variants) (c : Dev nD) (bd : Option 𝒱.V) (E : Set ℕ) (arg0 : Memref sig .tc .vmem S100x78 .f32) (harg0 : arg0.IsWhole) (arg1 : Memref sig .tc .vmem S1x286 .i32) (harg1 : arg1.IsWhole) (arg2 : Memref sig .tc .vmem S1x286 .i32) (harg2 : arg2.IsWhole) (arg3 : Memref sig .tc .vmem S286x1 .i32) (harg3 : arg3.IsWhole) (arg4 : Memref sig .tc .vmem S8x64 .f32) (harg4 : arg4.IsWhole) (arg5 : Memref sig .tc .vmem S1x64 .f32) (harg5 : arg5.IsWhole) (arg6 : Memref sig .tc .vmem S128x2496 .f32) (harg6 : arg6.IsWhole) (arg7 : Memref sig .tc .vmem S1x128 .f32) (harg7 : arg7.IsWhole) (arg8 : Memref sig .tc .vmem S256x128 .f32) (harg8 : arg8.IsWhole) (arg9 : Memref sig .tc .vmem S1x256 .f32) (harg9 : arg9.IsWhole) (arg10 : Memref sig .tc .vmem S128x256 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S100x2496 .f32) (harg13 : arg13.IsWhole) (arg14 : Memref sig .tc .vmem S100x2496 .f32) (harg14 : arg14.IsWhole) (arg15 : Memref sig .tc .vmem S100x128 .f32) (harg15 : arg15.IsWhole) (arg16 : Memref sig .tc .vmem S100x128 .f32) (harg16 : arg16.IsWhole) (arg17 : Memref sig .tc .vmem S100x256 .f32) (harg17 : arg17.IsWhole) (arg18 : Memref sig .tc .vmem S100x256 .f32) (harg18 : arg18.IsWhole) (arg19 : Memref sig .tc .vmem S100x128 .f32) (harg19 : arg19.IsWhole) (X : BufTy.Contents (Elt F) arg17.view.ty) (init : FVec F S1x256 .f32 × FVec F S1x256 .f32) (k : Fin k0_t3_loop.trips) (acc : FVec F S1x256 .f32 × FVec F S1x256 .f32) :
    inv_3 (F := F) c arg17 arg18 X init k.val acc ⊢ wp frame (wpE (defs₀ (F := F)) 𝒱 (c : Thread nD τ) bd) E (k0_t3_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k acc)
      (inv_3 (F := F) c arg17 arg18 X init (k.val + 1)) := by
  iintro ⟨HR, ⟨%f, HW, %hf⟩, %hacc⟩
  iapply (wp_wand_r Idealize.ShloMosaic.frame (wpE defs₀ 𝒱 (c : Thread nD τ) bd) E)
  isplitl [HR HW]
  · iapply ((trip_k0_t3 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X k).2.2 E acc f)
    isplitl [HR]; · iexact HR
    iexact HW
  · iintro %yld ⟨%h_res, HR, HW⟩
    isplitl [HR]; · iexact HR
    isplitl [HW]
    · iexists _; isplitl [HW]; · iexact HW
      ipureintro
      exact (rowsTo_eq_true ..).mpr (rows_3 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X k init acc f hacc ((rowsTo_eq_true ..).mp hf))
    ipureintro
    exact h_res.trans (carried_3 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X k init acc hacc)

set_option warn.classDefReducibility false in
/-- The loop by its invariant. -/
@[sl_loop] def loopInv_3 (𝒱 : Variants) (c : Dev nD) (bd : Option 𝒱.V) (E : Set ℕ) (arg0 : Memref sig .tc .vmem S100x78 .f32) (harg0 : arg0.IsWhole) (arg1 : Memref sig .tc .vmem S1x286 .i32) (harg1 : arg1.IsWhole) (arg2 : Memref sig .tc .vmem S1x286 .i32) (harg2 : arg2.IsWhole) (arg3 : Memref sig .tc .vmem S286x1 .i32) (harg3 : arg3.IsWhole) (arg4 : Memref sig .tc .vmem S8x64 .f32) (harg4 : arg4.IsWhole) (arg5 : Memref sig .tc .vmem S1x64 .f32) (harg5 : arg5.IsWhole) (arg6 : Memref sig .tc .vmem S128x2496 .f32) (harg6 : arg6.IsWhole) (arg7 : Memref sig .tc .vmem S1x128 .f32) (harg7 : arg7.IsWhole) (arg8 : Memref sig .tc .vmem S256x128 .f32) (harg8 : arg8.IsWhole) (arg9 : Memref sig .tc .vmem S1x256 .f32) (harg9 : arg9.IsWhole) (arg10 : Memref sig .tc .vmem S128x256 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S100x2496 .f32) (harg13 : arg13.IsWhole) (arg14 : Memref sig .tc .vmem S100x2496 .f32) (harg14 : arg14.IsWhole) (arg15 : Memref sig .tc .vmem S100x128 .f32) (harg15 : arg15.IsWhole) (arg16 : Memref sig .tc .vmem S100x128 .f32) (harg16 : arg16.IsWhole) (arg17 : Memref sig .tc .vmem S100x256 .f32) (harg17 : arg17.IsWhole) (arg18 : Memref sig .tc .vmem S100x256 .f32) (harg18 : arg18.IsWhole) (arg19 : Memref sig .tc .vmem S100x128 .f32) (harg19 : arg19.IsWhole) (X : BufTy.Contents (Elt Ideal) arg17.view.ty) (init : FVec Ideal S1x256 .f32 × FVec Ideal S1x256 .f32) :
    LoopInv (M := MT nD τ sig Unit (Elt Ideal) ℕ (UR sig nD τ) ℕ) Idealize.ShloMosaic.frame (wpE (defs₀ (F := Ideal)) 𝒱 (c : Thread nD τ) bd) E
      k0_t3_loop.lb k0_t3_loop.ub k0_t3_loop.st k0_t3_ok init (k0_t3_body (F := Ideal) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) where
  inv := inv_3 (F := Ideal) c arg17 arg18 X init
  step k acc := by
    exact step_3 (F := Ideal)  𝒱 c bd E arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X init k acc

set_option warn.classDefReducibility false in
/-- After the loop: the output buffer holds the matrix of the spikes. -/
def loopExit_3 (𝒱 : Variants) (c : Dev nD) (bd : Option 𝒱.V) (E : Set ℕ) (arg0 : Memref sig .tc .vmem S100x78 .f32) (harg0 : arg0.IsWhole) (arg1 : Memref sig .tc .vmem S1x286 .i32) (harg1 : arg1.IsWhole) (arg2 : Memref sig .tc .vmem S1x286 .i32) (harg2 : arg2.IsWhole) (arg3 : Memref sig .tc .vmem S286x1 .i32) (harg3 : arg3.IsWhole) (arg4 : Memref sig .tc .vmem S8x64 .f32) (harg4 : arg4.IsWhole) (arg5 : Memref sig .tc .vmem S1x64 .f32) (harg5 : arg5.IsWhole) (arg6 : Memref sig .tc .vmem S128x2496 .f32) (harg6 : arg6.IsWhole) (arg7 : Memref sig .tc .vmem S1x128 .f32) (harg7 : arg7.IsWhole) (arg8 : Memref sig .tc .vmem S256x128 .f32) (harg8 : arg8.IsWhole) (arg9 : Memref sig .tc .vmem S1x256 .f32) (harg9 : arg9.IsWhole) (arg10 : Memref sig .tc .vmem S128x256 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S100x2496 .f32) (harg13 : arg13.IsWhole) (arg14 : Memref sig .tc .vmem S100x2496 .f32) (harg14 : arg14.IsWhole) (arg15 : Memref sig .tc .vmem S100x128 .f32) (harg15 : arg15.IsWhole) (arg16 : Memref sig .tc .vmem S100x128 .f32) (harg16 : arg16.IsWhole) (arg17 : Memref sig .tc .vmem S100x256 .f32) (harg17 : arg17.IsWhole) (arg18 : Memref sig .tc .vmem S100x256 .f32) (harg18 : arg18.IsWhole) (arg19 : Memref sig .tc .vmem S100x128 .f32) (harg19 : arg19.IsWhole) (X : BufTy.Contents (Elt Ideal) arg17.view.ty) (init : FVec Ideal S1x256 .f32 × FVec Ideal S1x256 .f32) :
    LoopExit (loopInv_3 𝒱 c bd E arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X init) where
  post acc := iprop((arg17.view.loc (c : Thread nD τ) ↦[arg17.view.set]{fullShare} X) ∗ (arg18.view.loc (c : Thread nD τ) ↦[arg18.view.set]{fullShare} (harg18.unread (spikesFrom init (arg17.view.read (Elt Ideal) X)))))
  exit acc := by
    show inv_3 (F := Ideal) c arg17 arg18 X init _ acc ⊢ _
    iintro ⟨HR, ⟨%f, HW, %hf⟩, %hacc⟩
    obtain rfl := harg18.eq_unread (((rowsTo_eq_true ..).mp hf).all (congrArg (10 * ·) trips_3))
    isplitl [HR]; · iexact HR
    iexact HW

end

end Cert.KernelIdeal.Scan

end
-- ==== Proof.Loop4.lean ====
module
public import proofs.«01_k».proof.Proof.Gen.KernelIdeal.Loops
public import proofs.«01_k».proof.Proof.Lif

/-!
The fourth spiking loop: it scans the output layer's rows and sums the spikes.
-/

@[expose] public section

set_option maxRecDepth 16384
set_option maxHeartbeats 4000000

noncomputable section

namespace Cert.KernelIdeal.Scan

open Cert.KernelIdeal.Gen Cert.KernelIdeal.Lif
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! ### Loop 4 -/

/-- The loop makes ten trips. -/
theorem trips_4 : k0_t4_loop.trips = 10 := by decide

section
variable {F : FTy → Type} [FloatOps F] [Named F]

/-- One trip advances the carried triple by ten rows. -/
theorem carried_4 (𝒱 : Variants) (c : Dev nD) (bd : Option 𝒱.V) (arg0 : Memref sig .tc .vmem S100x78 .f32) (harg0 : arg0.IsWhole) (arg1 : Memref sig .tc .vmem S1x286 .i32) (harg1 : arg1.IsWhole) (arg2 : Memref sig .tc .vmem S1x286 .i32) (harg2 : arg2.IsWhole) (arg3 : Memref sig .tc .vmem S286x1 .i32) (harg3 : arg3.IsWhole) (arg4 : Memref sig .tc .vmem S8x64 .f32) (harg4 : arg4.IsWhole) (arg5 : Memref sig .tc .vmem S1x64 .f32) (harg5 : arg5.IsWhole) (arg6 : Memref sig .tc .vmem S128x2496 .f32) (harg6 : arg6.IsWhole) (arg7 : Memref sig .tc .vmem S1x128 .f32) (harg7 : arg7.IsWhole) (arg8 : Memref sig .tc .vmem S256x128 .f32) (harg8 : arg8.IsWhole) (arg9 : Memref sig .tc .vmem S1x256 .f32) (harg9 : arg9.IsWhole) (arg10 : Memref sig .tc .vmem S128x256 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S100x2496 .f32) (harg13 : arg13.IsWhole) (arg14 : Memref sig .tc .vmem S100x2496 .f32) (harg14 : arg14.IsWhole) (arg15 : Memref sig .tc .vmem S100x128 .f32) (harg15 : arg15.IsWhole) (arg16 : Memref sig .tc .vmem S100x128 .f32) (harg16 : arg16.IsWhole) (arg17 : Memref sig .tc .vmem S100x256 .f32) (harg17 : arg17.IsWhole) (arg18 : Memref sig .tc .vmem S100x256 .f32) (harg18 : arg18.IsWhole) (arg19 : Memref sig .tc .vmem S100x128 .f32) (harg19 : arg19.IsWhole) (X : BufTy.Contents (Elt F) arg19.view.ty) (k : Fin k0_t4_loop.trips) (init acc : FVec F S1x128 .f32 × FVec F S1x128 .f32 × FVec F S1x128 .f32)
    (hacc : acc = sumFrom init (arg19.view.read (Elt F) X) (10 * k.val)) :
    tripR_k0_t4 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X k acc = sumFrom init (arg19.view.read (Elt F) X) (10 * k.val + 10) := by
  have hk : k.val < 10 := Nat.lt_of_lt_of_le k.isLt k0_t4_abs.2.1
  have hr0 : View.readAt (Elt F) arg19.view (Rect.unit (s := S100x128) (k0_off4 k 0#32) S1x128.size (k0_off4_inb k 0)).toLoadRect X = rowOf (arg19.view.read (Elt F) X) (10 * k.val + 0) :=
    readAt_row _ _ _ _ (by omega) (k0_off4_eq k 0)
  have hr1 : View.readAt (Elt F) arg19.view (Rect.unit (s := S100x128) (k0_off4 k 1#32) S1x128.size (k0_off4_inb k 1)).toLoadRect X = rowOf (arg19.view.read (Elt F) X) (10 * k.val + 1) :=
    readAt_row _ _ _ _ (by omega) (k0_off4_eq k 1)
  have hr2 : View.readAt (Elt F) arg19.view (Rect.unit (s := S100x128) (k0_off4 k 2#32) S1x128.size (k0_off4_inb k 2)).toLoadRect X = rowOf (arg19.view.read (Elt F) X) (10 * k.val + 2) :=
    readAt_row _ _ _ _ (by omega) (k0_off4_eq k 2)
  have hr3 : View.readAt (Elt F) arg19.view (Rect.unit (s := S100x128) (k0_off4 k 3#32) S1x128.size (k0_off4_inb k 3)).toLoadRect X = rowOf (arg19.view.read (Elt F) X) (10 * k.val + 3) :=
    readAt_row _ _ _ _ (by omega) (k0_off4_eq k 3)
  have hr4 : View.readAt (Elt F) arg19.view (Rect.unit (s := S100x128) (k0_off4 k 4#32) S1x128.size (k0_off4_inb k 4)).toLoadRect X = rowOf (arg19.view.read (Elt F) X) (10 * k.val + 4) :=
    readAt_row _ _ _ _ (by omega) (k0_off4_eq k 4)
  have hr5 : View.readAt (Elt F) arg19.view (Rect.unit (s := S100x128) (k0_off4 k 5#32) S1x128.size (k0_off4_inb k 5)).toLoadRect X = rowOf (arg19.view.read (Elt F) X) (10 * k.val + 5) :=
    readAt_row _ _ _ _ (by omega) (k0_off4_eq k 5)
  have hr6 : View.readAt (Elt F) arg19.view (Rect.unit (s := S100x128) (k0_off4 k 6#32) S1x128.size (k0_off4_inb k 6)).toLoadRect X = rowOf (arg19.view.read (Elt F) X) (10 * k.val + 6) :=
    readAt_row _ _ _ _ (by omega) (k0_off4_eq k 6)
  have hr7 : View.readAt (Elt F) arg19.view (Rect.unit (s := S100x128) (k0_off4 k 7#32) S1x128.size (k0_off4_inb k 7)).toLoadRect X = rowOf (arg19.view.read (Elt F) X) (10 * k.val + 7) :=
    readAt_row _ _ _ _ (by omega) (k0_off4_eq k 7)
  have hr8 : View.readAt (Elt F) arg19.view (Rect.unit (s := S100x128) (k0_off4 k 8#32) S1x128.size (k0_off4_inb k 8)).toLoadRect X = rowOf (arg19.view.read (Elt F) X) (10 * k.val + 8) :=
    readAt_row _ _ _ _ (by omega) (k0_off4_eq k 8)
  have hr9 : View.readAt (Elt F) arg19.view (Rect.unit (s := S100x128) (k0_off4 k 9#32) S1x128.size (k0_off4_inb k 9)).toLoadRect X = rowOf (arg19.view.read (Elt F) X) (10 * k.val + 9) :=
    readAt_row _ _ _ _ (by omega) (k0_off4_eq k 9)
  let q1 := lifStep (View.readAt (Elt F) arg19.view (Rect.unit (s := S100x128) (k0_off4 k 0#32) S1x128.size (k0_off4_inb k 0)).toLoadRect X) (acc.1, acc.2.1)
  let p1 : FVec F S1x128 .f32 × FVec F S1x128 .f32 × FVec F S1x128 .f32 := (q1.1, q1.2, addf acc.2.2 q1.2)
  have hp1 : p1 = sumFrom init (arg19.view.read (Elt F) X) (10 * k.val + 1) := by
    show ((lifStep _ _).1, (lifStep _ _).2, addf _ (lifStep _ _).2) = _
    rw [hr0, hacc]; rfl
  let q2 := lifStep (View.readAt (Elt F) arg19.view (Rect.unit (s := S100x128) (k0_off4 k 1#32) S1x128.size (k0_off4_inb k 1)).toLoadRect X) (p1.1, p1.2.1)
  let p2 : FVec F S1x128 .f32 × FVec F S1x128 .f32 × FVec F S1x128 .f32 := (q2.1, q2.2, addf p1.2.2 q2.2)
  have hp2 : p2 = sumFrom init (arg19.view.read (Elt F) X) (10 * k.val + 2) := by
    show ((lifStep _ _).1, (lifStep _ _).2, addf _ (lifStep _ _).2) = _
    rw [hr1, hp1]; rfl
  let q3 := lifStep (View.readAt (Elt F) arg19.view (Rect.unit (s := S100x128) (k0_off4 k 2#32) S1x128.size (k0_off4_inb k 2)).toLoadRect X) (p2.1, p2.2.1)
  let p3 : FVec F S1x128 .f32 × FVec F S1x128 .f32 × FVec F S1x128 .f32 := (q3.1, q3.2, addf p2.2.2 q3.2)
  have hp3 : p3 = sumFrom init (arg19.view.read (Elt F) X) (10 * k.val + 3) := by
    show ((lifStep _ _).1, (lifStep _ _).2, addf _ (lifStep _ _).2) = _
    rw [hr2, hp2]; rfl
  let q4 := lifStep (View.readAt (Elt F) arg19.view (Rect.unit (s := S100x128) (k0_off4 k 3#32) S1x128.size (k0_off4_inb k 3)).toLoadRect X) (p3.1, p3.2.1)
  let p4 : FVec F S1x128 .f32 × FVec F S1x128 .f32 × FVec F S1x128 .f32 := (q4.1, q4.2, addf p3.2.2 q4.2)
  have hp4 : p4 = sumFrom init (arg19.view.read (Elt F) X) (10 * k.val + 4) := by
    show ((lifStep _ _).1, (lifStep _ _).2, addf _ (lifStep _ _).2) = _
    rw [hr3, hp3]; rfl
  let q5 := lifStep (View.readAt (Elt F) arg19.view (Rect.unit (s := S100x128) (k0_off4 k 4#32) S1x128.size (k0_off4_inb k 4)).toLoadRect X) (p4.1, p4.2.1)
  let p5 : FVec F S1x128 .f32 × FVec F S1x128 .f32 × FVec F S1x128 .f32 := (q5.1, q5.2, addf p4.2.2 q5.2)
  have hp5 : p5 = sumFrom init (arg19.view.read (Elt F) X) (10 * k.val + 5) := by
    show ((lifStep _ _).1, (lifStep _ _).2, addf _ (lifStep _ _).2) = _
    rw [hr4, hp4]; rfl
  let q6 := lifStep (View.readAt (Elt F) arg19.view (Rect.unit (s := S100x128) (k0_off4 k 5#32) S1x128.size (k0_off4_inb k 5)).toLoadRect X) (p5.1, p5.2.1)
  let p6 : FVec F S1x128 .f32 × FVec F S1x128 .f32 × FVec F S1x128 .f32 := (q6.1, q6.2, addf p5.2.2 q6.2)
  have hp6 : p6 = sumFrom init (arg19.view.read (Elt F) X) (10 * k.val + 6) := by
    show ((lifStep _ _).1, (lifStep _ _).2, addf _ (lifStep _ _).2) = _
    rw [hr5, hp5]; rfl
  let q7 := lifStep (View.readAt (Elt F) arg19.view (Rect.unit (s := S100x128) (k0_off4 k 6#32) S1x128.size (k0_off4_inb k 6)).toLoadRect X) (p6.1, p6.2.1)
  let p7 : FVec F S1x128 .f32 × FVec F S1x128 .f32 × FVec F S1x128 .f32 := (q7.1, q7.2, addf p6.2.2 q7.2)
  have hp7 : p7 = sumFrom init (arg19.view.read (Elt F) X) (10 * k.val + 7) := by
    show ((lifStep _ _).1, (lifStep _ _).2, addf _ (lifStep _ _).2) = _
    rw [hr6, hp6]; rfl
  let q8 := lifStep (View.readAt (Elt F) arg19.view (Rect.unit (s := S100x128) (k0_off4 k 7#32) S1x128.size (k0_off4_inb k 7)).toLoadRect X) (p7.1, p7.2.1)
  let p8 : FVec F S1x128 .f32 × FVec F S1x128 .f32 × FVec F S1x128 .f32 := (q8.1, q8.2, addf p7.2.2 q8.2)
  have hp8 : p8 = sumFrom init (arg19.view.read (Elt F) X) (10 * k.val + 8) := by
    show ((lifStep _ _).1, (lifStep _ _).2, addf _ (lifStep _ _).2) = _
    rw [hr7, hp7]; rfl
  let q9 := lifStep (View.readAt (Elt F) arg19.view (Rect.unit (s := S100x128) (k0_off4 k 8#32) S1x128.size (k0_off4_inb k 8)).toLoadRect X) (p8.1, p8.2.1)
  let p9 : FVec F S1x128 .f32 × FVec F S1x128 .f32 × FVec F S1x128 .f32 := (q9.1, q9.2, addf p8.2.2 q9.2)
  have hp9 : p9 = sumFrom init (arg19.view.read (Elt F) X) (10 * k.val + 9) := by
    show ((lifStep _ _).1, (lifStep _ _).2, addf _ (lifStep _ _).2) = _
    rw [hr8, hp8]; rfl
  let q10 := lifStep (View.readAt (Elt F) arg19.view (Rect.unit (s := S100x128) (k0_off4 k 9#32) S1x128.size (k0_off4_inb k 9)).toLoadRect X) (p9.1, p9.2.1)
  let p10 : FVec F S1x128 .f32 × FVec F S1x128 .f32 × FVec F S1x128 .f32 := (q10.1, q10.2, addf p9.2.2 q10.2)
  have hp10 : p10 = sumFrom init (arg19.view.read (Elt F) X) (10 * k.val + 10) := by
    show ((lifStep _ _).1, (lifStep _ _).2, addf _ (lifStep _ _).2) = _
    rw [hr9, hp9]; rfl
  have e : tripR_k0_t4 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X k acc = p10 := by
    unfold tripR_k0_t4 trip_k0_t4
    rfl
  exact e.trans hp10

end

section
variable {F : FTy → Type} [FloatOps F]

/-- Before trip `k`: the input buffer as it was, and the carried value the scan's after `10 k` rows. -/
abbrev inv_4 (c : Dev nD) (arg19 : Memref sig .tc .vmem S100x128 .f32) (X : BufTy.Contents (Elt F) arg19.view.ty) (init : FVec F S1x128 .f32 × FVec F S1x128 .f32 × FVec F S1x128 .f32) (k : ℕ) (acc : FVec F S1x128 .f32 × FVec F S1x128 .f32 × FVec F S1x128 .f32) : sProp (MT nD τ sig Unit (Elt F) ℕ (UR sig nD τ) ℕ) :=
  iprop((arg19.view.loc (c : Thread nD τ) ↦[arg19.view.set]{fullShare} X) ∗ ⌜acc = sumFrom init (arg19.view.read (Elt F) X) (10 * k)⌝)

/-- One trip of the loop's region takes the invariant to the next trip. -/
theorem step_4 [Named F] (𝒱 : Variants) (c : Dev nD) (bd : Option 𝒱.V) (E : Set ℕ) (arg0 : Memref sig .tc .vmem S100x78 .f32) (harg0 : arg0.IsWhole) (arg1 : Memref sig .tc .vmem S1x286 .i32) (harg1 : arg1.IsWhole) (arg2 : Memref sig .tc .vmem S1x286 .i32) (harg2 : arg2.IsWhole) (arg3 : Memref sig .tc .vmem S286x1 .i32) (harg3 : arg3.IsWhole) (arg4 : Memref sig .tc .vmem S8x64 .f32) (harg4 : arg4.IsWhole) (arg5 : Memref sig .tc .vmem S1x64 .f32) (harg5 : arg5.IsWhole) (arg6 : Memref sig .tc .vmem S128x2496 .f32) (harg6 : arg6.IsWhole) (arg7 : Memref sig .tc .vmem S1x128 .f32) (harg7 : arg7.IsWhole) (arg8 : Memref sig .tc .vmem S256x128 .f32) (harg8 : arg8.IsWhole) (arg9 : Memref sig .tc .vmem S1x256 .f32) (harg9 : arg9.IsWhole) (arg10 : Memref sig .tc .vmem S128x256 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S100x2496 .f32) (harg13 : arg13.IsWhole) (arg14 : Memref sig .tc .vmem S100x2496 .f32) (harg14 : arg14.IsWhole) (arg15 : Memref sig .tc .vmem S100x128 .f32) (harg15 : arg15.IsWhole) (arg16 : Memref sig .tc .vmem S100x128 .f32) (harg16 : arg16.IsWhole) (arg17 : Memref sig .tc .vmem S100x256 .f32) (harg17 : arg17.IsWhole) (arg18 : Memref sig .tc .vmem S100x256 .f32) (harg18 : arg18.IsWhole) (arg19 : Memref sig .tc .vmem S100x128 .f32) (harg19 : arg19.IsWhole) (X : BufTy.Contents (Elt F) arg19.view.ty) (init : FVec F S1x128 .f32 × FVec F S1x128 .f32 × FVec F S1x128 .f32) (k : Fin k0_t4_loop.trips) (acc : FVec F S1x128 .f32 × FVec F S1x128 .f32 × FVec F S1x128 .f32) :
    inv_4 (F := F) c arg19 X init k.val acc ⊢ wp frame (wpE (defs₀ (F := F)) 𝒱 (c : Thread nD τ) bd) E (k0_t4_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k acc)
      (inv_4 (F := F) c arg19 X init (k.val + 1)) := by
  iintro ⟨HR, %hacc⟩
  iapply (wp_wand_r Idealize.ShloMosaic.frame (wpE defs₀ 𝒱 (c : Thread nD τ) bd) E)
  isplitl [HR]
  · iapply ((trip_k0_t4 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X k).2 E acc)
    iexact HR
  · iintro %yld ⟨%h_res, HR⟩
    isplitl [HR]; · iexact HR
    ipureintro
    exact h_res.trans (carried_4 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X k init acc hacc)

set_option warn.classDefReducibility false in
/-- The loop by its invariant. -/
@[sl_loop] def loopInv_4 (𝒱 : Variants) (c : Dev nD) (bd : Option 𝒱.V) (E : Set ℕ) (arg0 : Memref sig .tc .vmem S100x78 .f32) (harg0 : arg0.IsWhole) (arg1 : Memref sig .tc .vmem S1x286 .i32) (harg1 : arg1.IsWhole) (arg2 : Memref sig .tc .vmem S1x286 .i32) (harg2 : arg2.IsWhole) (arg3 : Memref sig .tc .vmem S286x1 .i32) (harg3 : arg3.IsWhole) (arg4 : Memref sig .tc .vmem S8x64 .f32) (harg4 : arg4.IsWhole) (arg5 : Memref sig .tc .vmem S1x64 .f32) (harg5 : arg5.IsWhole) (arg6 : Memref sig .tc .vmem S128x2496 .f32) (harg6 : arg6.IsWhole) (arg7 : Memref sig .tc .vmem S1x128 .f32) (harg7 : arg7.IsWhole) (arg8 : Memref sig .tc .vmem S256x128 .f32) (harg8 : arg8.IsWhole) (arg9 : Memref sig .tc .vmem S1x256 .f32) (harg9 : arg9.IsWhole) (arg10 : Memref sig .tc .vmem S128x256 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S100x2496 .f32) (harg13 : arg13.IsWhole) (arg14 : Memref sig .tc .vmem S100x2496 .f32) (harg14 : arg14.IsWhole) (arg15 : Memref sig .tc .vmem S100x128 .f32) (harg15 : arg15.IsWhole) (arg16 : Memref sig .tc .vmem S100x128 .f32) (harg16 : arg16.IsWhole) (arg17 : Memref sig .tc .vmem S100x256 .f32) (harg17 : arg17.IsWhole) (arg18 : Memref sig .tc .vmem S100x256 .f32) (harg18 : arg18.IsWhole) (arg19 : Memref sig .tc .vmem S100x128 .f32) (harg19 : arg19.IsWhole) (X : BufTy.Contents (Elt Ideal) arg19.view.ty) (init : FVec Ideal S1x128 .f32 × FVec Ideal S1x128 .f32 × FVec Ideal S1x128 .f32) :
    LoopInv (M := MT nD τ sig Unit (Elt Ideal) ℕ (UR sig nD τ) ℕ) Idealize.ShloMosaic.frame (wpE (defs₀ (F := Ideal)) 𝒱 (c : Thread nD τ) bd) E
      k0_t4_loop.lb k0_t4_loop.ub k0_t4_loop.st k0_t4_ok init (k0_t4_body (F := Ideal) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) where
  inv := inv_4 (F := Ideal) c arg19 X init
  step k acc := by
    exact step_4 (F := Ideal)  𝒱 c bd E arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X init k acc

set_option warn.classDefReducibility false in
/-- After the loop: the carried value is the scan's after all hundred rows. -/
def loopExit_4 (𝒱 : Variants) (c : Dev nD) (bd : Option 𝒱.V) (E : Set ℕ) (arg0 : Memref sig .tc .vmem S100x78 .f32) (harg0 : arg0.IsWhole) (arg1 : Memref sig .tc .vmem S1x286 .i32) (harg1 : arg1.IsWhole) (arg2 : Memref sig .tc .vmem S1x286 .i32) (harg2 : arg2.IsWhole) (arg3 : Memref sig .tc .vmem S286x1 .i32) (harg3 : arg3.IsWhole) (arg4 : Memref sig .tc .vmem S8x64 .f32) (harg4 : arg4.IsWhole) (arg5 : Memref sig .tc .vmem S1x64 .f32) (harg5 : arg5.IsWhole) (arg6 : Memref sig .tc .vmem S128x2496 .f32) (harg6 : arg6.IsWhole) (arg7 : Memref sig .tc .vmem S1x128 .f32) (harg7 : arg7.IsWhole) (arg8 : Memref sig .tc .vmem S256x128 .f32) (harg8 : arg8.IsWhole) (arg9 : Memref sig .tc .vmem S1x256 .f32) (harg9 : arg9.IsWhole) (arg10 : Memref sig .tc .vmem S128x256 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S100x2496 .f32) (harg13 : arg13.IsWhole) (arg14 : Memref sig .tc .vmem S100x2496 .f32) (harg14 : arg14.IsWhole) (arg15 : Memref sig .tc .vmem S100x128 .f32) (harg15 : arg15.IsWhole) (arg16 : Memref sig .tc .vmem S100x128 .f32) (harg16 : arg16.IsWhole) (arg17 : Memref sig .tc .vmem S100x256 .f32) (harg17 : arg17.IsWhole) (arg18 : Memref sig .tc .vmem S100x256 .f32) (harg18 : arg18.IsWhole) (arg19 : Memref sig .tc .vmem S100x128 .f32) (harg19 : arg19.IsWhole) (X : BufTy.Contents (Elt Ideal) arg19.view.ty) (init : FVec Ideal S1x128 .f32 × FVec Ideal S1x128 .f32 × FVec Ideal S1x128 .f32) :
    LoopExit (loopInv_4 𝒱 c bd E arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X init) where
  post acc := iprop((arg19.view.loc (c : Thread nD τ) ↦[arg19.view.set]{fullShare} X) ∗ ⌜acc = sumAll init (arg19.view.read (Elt Ideal) X)⌝)
  exit acc := by
    show inv_4 (F := Ideal) c arg19 X init _ acc ⊢ _
    iintro ⟨HR, %hacc⟩
    isplitl [HR]; · iexact HR
    ipureintro
    rw [hacc, sumAll]
    exact congrArg (fun t => sumFrom init _ (10 * t)) trips_4

end

end Cert.KernelIdeal.Scan

end
-- ==== Proof.Body.lean ====
module
public import proofs.«01_k».proof.Proof.Gen.KernelIdeal.Frame.Runs
public import proofs.«01_k».proof.Proof.Loop1
public import proofs.«01_k».proof.Proof.Loop2
public import proofs.«01_k».proof.Proof.Loop3
public import proofs.«01_k».proof.Proof.Loop4
public import proofs.«01_k».proof.Proof.Block

/-!
The body of the kernel, run once from its buffers: the four scans are counted by `Loop1` … `Loop4`, and the result block ends
at `Block.out` of the twelve input blocks, which are left as found.
-/

@[expose] public section

set_option maxRecDepth 16384
noncomputable section

namespace Cert.KernelIdeal.Scan

open Cert.KernelIdeal.Gen Cert.KernelIdeal.Lif
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

attribute [local instance] loopExit_1 loopExit_2 loopExit_3 loopExit_4

variable {Val : EltTy → Type} {sig' : RefSig} {κ : Kind} {sp : Space} {e : EltTy} {d : Fin 2 → ℕ}

/-- A buffer written whole reads as what was written. -/
theorem read_whole [∀ e, Nonempty (Val e)] (v : View sig' κ sp ⟨2, d⟩ e) (f : v.ty.Contents Val)
    (inb : ∀ a, (![0, 0] : Fin 2 → ℕ) a + d a ≤ d a) (w : (⟨2, d⟩ : Shape).Idx → Val e) :
    v.read Val (v.writes Val f [(⟨Rect.unit (s := ⟨2, d⟩) ![0, 0] d inb, w⟩ : View.Piece Val ⟨2, d⟩ e)]) = w := by
  have hz : (![0, 0] : Fin 2 → ℕ) = fun _ => 0 := by funext a; fin_cases a <;> rfl
  funext y
  exact View.read_writes_cons_rows_of_mem v f inb w [] y y rfl (by simp) rfl

/-- A whole buffer loaded whole gives its contents. -/
theorem readAt_unread {m : Memref sig' κ sp ⟨2, d⟩ e} (h : m.IsWhole) (X : (⟨2, d⟩ : Shape).Idx → Val e)
    (inb : ∀ a, (![0, 0] : Fin 2 → ℕ) a + d a ≤ d a) :
    View.readAt Val m.view (Rect.unit (s := ⟨2, d⟩) ![0, 0] d inb).toLoadRect (h.unread X) = X := by
  have hz : (![0, 0] : Fin 2 → ℕ) = fun _ => 0 := by funext a; fin_cases a <;> rfl
  rw [View.readAt_eq_ld, h.read_unread]
  exact View.ld_unit_zero (S := ⟨2, d⟩) hz inb X

set_option maxHeartbeats 4000000 in
/-- The body, from the twelve input blocks and any contents of the result block and the seven work buffers: it ends with the
inputs unchanged and the result block at `Block.out`. -/
theorem bodyRun (c : Dev nD) (arg0 : Memref sig .tc .vmem S100x78 .f32) (harg0 : arg0.IsWhole) (arg1 : Memref sig .tc .vmem S1x286 .i32) (harg1 : arg1.IsWhole) (arg2 : Memref sig .tc .vmem S1x286 .i32) (harg2 : arg2.IsWhole) (arg3 : Memref sig .tc .vmem S286x1 .i32) (harg3 : arg3.IsWhole) (arg4 : Memref sig .tc .vmem S8x64 .f32) (harg4 : arg4.IsWhole) (arg5 : Memref sig .tc .vmem S1x64 .f32) (harg5 : arg5.IsWhole) (arg6 : Memref sig .tc .vmem S128x2496 .f32) (harg6 : arg6.IsWhole) (arg7 : Memref sig .tc .vmem S1x128 .f32) (harg7 : arg7.IsWhole) (arg8 : Memref sig .tc .vmem S256x128 .f32) (harg8 : arg8.IsWhole) (arg9 : Memref sig .tc .vmem S1x256 .f32) (harg9 : arg9.IsWhole) (arg10 : Memref sig .tc .vmem S128x256 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S100x2496 .f32) (harg13 : arg13.IsWhole) (arg14 : Memref sig .tc .vmem S100x2496 .f32) (harg14 : arg14.IsWhole) (arg15 : Memref sig .tc .vmem S100x128 .f32) (harg15 : arg15.IsWhole) (arg16 : Memref sig .tc .vmem S100x128 .f32) (harg16 : arg16.IsWhole) (arg17 : Memref sig .tc .vmem S100x256 .f32) (harg17 : arg17.IsWhole) (arg18 : Memref sig .tc .vmem S100x256 .f32) (harg18 : arg18.IsWhole) (arg19 : Memref sig .tc .vmem S100x128 .f32) (harg19 : arg19.IsWhole)
    (x0 : Vec Ideal S100x78 .f32) (x1 : Vec Ideal S1x286 .i32) (x2 : Vec Ideal S1x286 .i32) (x3 : Vec Ideal S286x1 .i32) (x4 : Vec Ideal S8x64 .f32) (x5 : Vec Ideal S1x64 .f32) (x6 : Vec Ideal S128x2496 .f32) (x7 : Vec Ideal S1x128 .f32) (x8 : Vec Ideal S256x128 .f32) (x9 : Vec Ideal S1x256 .f32) (x10 : Vec Ideal S128x256 .f32) (x11 : Vec Ideal S1x128 .f32) :
    ∀ (E : Set ℕ) (K : PUnit → sProp (MT nD τ sig Unit (Elt Ideal) ℕ (UR sig nD τ) ℕ)),
        iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
            ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare (Block.out x0 x1 x2 x3 x4 x5 x6 x7 x8 x9 x10 x11) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)) -∗ K ⟨⟩))
          ⊢ wp frame (wpE (defs₀ (F := Ideal)) Variants.none c none) E (cc0__sgnet_kernel arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  intro E K
  simp only [cc0__sgnet_kernel_eq_skeleton]; unfold cc0__sgnet_kernel_skel
  simp only [k0_part23_eq_skeleton]; unfold k0_part23_skel
  simp only [k0_part16_eq_skeleton, k0_part17_eq_skeleton, k0_part18_eq_skeleton, k0_part19_eq_skeleton, k0_part20_eq_skeleton, k0_part21_eq_skeleton, k0_part22_eq_skeleton, bind_assoc]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, Hk⟩
  obtain rfl := harg0.eq_unread hf0; obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11
  sl_exec
  sl_step
  iapply Hk
  isplitl [H0]
  · iexists _; isplitr; · ipureintro; exact harg0.read_unread _
    iexact H0
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; swap; · iexact H12
    ipureintro
    refine (read_whole _ _ _ _).trans ?_
    unfold bodyRun.sl.HS6_1 bodyRun.sl.x bodyRun.sl.HS4_1 bodyRun.sl.r_6 bodyRun.sl.v293 bodyRun.sl.HS2_1 bodyRun.sl.v279 bodyRun.sl.HS0_1 bodyRun.sl.r_5 bodyRun.sl.r_3 bodyRun.sl.r_4 bodyRun.sl.v197 bodyRun.sl.r_2 bodyRun.sl.v146 bodyRun.sl.r bodyRun.sl.r_1 bodyRun.sl.v70 bodyRun.sl.v41 bodyRun.sl.v42
    simp only [read_whole, readAt_unread, Memref.IsWhole.read_unread]
    rfl
  isplitl [HL0]
  · iexists _, _; isplitr; swap; · iexact HL0
    ipureintro; rfl
  isplitl [HL1]
  · iexists _, _; isplitr; swap; · iexact HL1
    ipureintro; rfl
  isplitl [HL2]
  · iexists _, _; isplitr; swap; · iexact HL2
    ipureintro; rfl
  isplitl [HL3]
  · iexists _, _; isplitr; swap; · iexact HL3
    ipureintro; rfl
  isplitl [HL4]
  · iexists _, _; isplitr; swap; · iexact HL4
    ipureintro; rfl
  isplitl [HL5]
  · iexists _, _; isplitr; swap; · iexact HL5
    ipureintro; rfl
  iexists _, _; isplitr; swap; · iexact HS6
  ipureintro; rfl

end Cert.KernelIdeal.Scan
end
-- ==== Proof.Launch.lean ====
module
public import proofs.«01_k».proof.Proof.Body
public import Idealize.ShloMosaic.Lib.Claim

/-!
The launch: its one point gives the body the twelve arrays whole and takes the result's 128 columns back; then the whole
program's run, and what no run changes.
-/

@[expose] public section

set_option maxRecDepth 16384

noncomputable section

namespace Cert.KernelIdeal.Launched

open Cert.KernelIdeal.Gen Cert.KernelIdeal.Scan
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-- What the body leaves in the result's block. -/
def outBlk (c : Dev nD) (t : Fin cfg0.N) : FVec Ideal S1x128 .f32 :=
  Block.out (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t)

/-- What each array holds when the body starts, and what its block holds when the body ends: an input's block is left, the
result's is `outBlk`. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => outBlk m c t
  Φ _ := Pipeline.ΦA spec0 c
  q _ := fullShare
  owed _ := 0

/-- Every array starts as the lines before the launch leave it. -/
theorem A_eq (c : Dev nD) (w : Fin cfg0.W) : (dats m 0 c).A w = V m c (Pipeline.arrRef spec0 w) := by
  dsimp only [dats]

/-! What the body leaves in each block. -/

/-- The body leaves input 0 as found. -/
theorem after0_0 (c : Dev nD) (t : Fin cfg0.N) : (dats m 0 c).after 0 t = iblk m c 0 t := by dsimp only [dats]
/-- The body leaves input 1 as found. -/
theorem after0_1 (c : Dev nD) (t : Fin cfg0.N) : (dats m 0 c).after 1 t = iblk m c 1 t := by dsimp only [dats]
/-- The body leaves input 2 as found. -/
theorem after0_2 (c : Dev nD) (t : Fin cfg0.N) : (dats m 0 c).after 2 t = iblk m c 2 t := by dsimp only [dats]
/-- The body leaves input 3 as found. -/
theorem after0_3 (c : Dev nD) (t : Fin cfg0.N) : (dats m 0 c).after 3 t = iblk m c 3 t := by dsimp only [dats]
/-- The body leaves input 4 as found. -/
theorem after0_4 (c : Dev nD) (t : Fin cfg0.N) : (dats m 0 c).after 4 t = iblk m c 4 t := by dsimp only [dats]
/-- The body leaves input 5 as found. -/
theorem after0_5 (c : Dev nD) (t : Fin cfg0.N) : (dats m 0 c).after 5 t = iblk m c 5 t := by dsimp only [dats]
/-- The body leaves input 6 as found. -/
theorem after0_6 (c : Dev nD) (t : Fin cfg0.N) : (dats m 0 c).after 6 t = iblk m c 6 t := by dsimp only [dats]
/-- The body leaves input 7 as found. -/
theorem after0_7 (c : Dev nD) (t : Fin cfg0.N) : (dats m 0 c).after 7 t = iblk m c 7 t := by dsimp only [dats]
/-- The body leaves input 8 as found. -/
theorem after0_8 (c : Dev nD) (t : Fin cfg0.N) : (dats m 0 c).after 8 t = iblk m c 8 t := by dsimp only [dats]
/-- The body leaves input 9 as found. -/
theorem after0_9 (c : Dev nD) (t : Fin cfg0.N) : (dats m 0 c).after 9 t = iblk m c 9 t := by dsimp only [dats]
/-- The body leaves input 10 as found. -/
theorem after0_10 (c : Dev nD) (t : Fin cfg0.N) : (dats m 0 c).after 10 t = iblk m c 10 t := by dsimp only [dats]
/-- The body leaves input 11 as found. -/
theorem after0_11 (c : Dev nD) (t : Fin cfg0.N) : (dats m 0 c).after 11 t = iblk m c 11 t := by dsimp only [dats]
/-- The body leaves the result at its block. -/
theorem after0_12 (c : Dev nD) (t : Fin cfg0.N) : (dats m 0 c).after 12 t = outBlk m c t := by dsimp only [dats]

/-! What each input block holds when the body starts. -/

/-- Input 0 is whole in its buffer when the body starts. -/
theorem before0_0 (c : Dev nD) (t : Fin cfg0.N) (d) : (dats m 0 c).before 0 t d = iblk m c 0 t :=
  before0_0_of m (dats m 0 c) (A_eq m c 0) (after0_0 m c) t d
/-- Input 1 is whole in its buffer when the body starts. -/
theorem before0_1 (c : Dev nD) (t : Fin cfg0.N) (d) : (dats m 0 c).before 1 t d = iblk m c 1 t :=
  before0_1_of m (dats m 0 c) (A_eq m c 1) (after0_1 m c) t d
/-- Input 2 is whole in its buffer when the body starts. -/
theorem before0_2 (c : Dev nD) (t : Fin cfg0.N) (d) : (dats m 0 c).before 2 t d = iblk m c 2 t :=
  before0_2_of m (dats m 0 c) (A_eq m c 2) (after0_2 m c) t d
/-- Input 3 is whole in its buffer when the body starts. -/
theorem before0_3 (c : Dev nD) (t : Fin cfg0.N) (d) : (dats m 0 c).before 3 t d = iblk m c 3 t :=
  before0_3_of m (dats m 0 c) (A_eq m c 3) (after0_3 m c) t d
/-- Input 4 is whole in its buffer when the body starts. -/
theorem before0_4 (c : Dev nD) (t : Fin cfg0.N) (d) : (dats m 0 c).before 4 t d = iblk m c 4 t :=
  before0_4_of m (dats m 0 c) (A_eq m c 4) (after0_4 m c) t d
/-- Input 5 is whole in its buffer when the body starts. -/
theorem before0_5 (c : Dev nD) (t : Fin cfg0.N) (d) : (dats m 0 c).before 5 t d = iblk m c 5 t :=
  before0_5_of m (dats m 0 c) (A_eq m c 5) (after0_5 m c) t d
/-- Input 6 is whole in its buffer when the body starts. -/
theorem before0_6 (c : Dev nD) (t : Fin cfg0.N) (d) : (dats m 0 c).before 6 t d = iblk m c 6 t :=
  before0_6_of m (dats m 0 c) (A_eq m c 6) (after0_6 m c) t d
/-- Input 7 is whole in its buffer when the body starts. -/
theorem before0_7 (c : Dev nD) (t : Fin cfg0.N) (d) : (dats m 0 c).before 7 t d = iblk m c 7 t :=
  before0_7_of m (dats m 0 c) (A_eq m c 7) (after0_7 m c) t d
/-- Input 8 is whole in its buffer when the body starts. -/
theorem before0_8 (c : Dev nD) (t : Fin cfg0.N) (d) : (dats m 0 c).before 8 t d = iblk m c 8 t :=
  before0_8_of m (dats m 0 c) (A_eq m c 8) (after0_8 m c) t d
/-- Input 9 is whole in its buffer when the body starts. -/
theorem before0_9 (c : Dev nD) (t : Fin cfg0.N) (d) : (dats m 0 c).before 9 t d = iblk m c 9 t :=
  before0_9_of m (dats m 0 c) (A_eq m c 9) (after0_9 m c) t d
/-- Input 10 is whole in its buffer when the body starts. -/
theorem before0_10 (c : Dev nD) (t : Fin cfg0.N) (d) : (dats m 0 c).before 10 t d = iblk m c 10 t :=
  before0_10_of m (dats m 0 c) (A_eq m c 10) (after0_10 m c) t d
/-- Input 11 is whole in its buffer when the body starts. -/
theorem before0_11 (c : Dev nD) (t : Fin cfg0.N) (d) : (dats m 0 c).before 11 t d = iblk m c 11 t :=
  before0_11_of m (dats m 0 c) (A_eq m c 11) (after0_11 m c) t d

/-- What the body starts from. -/
def bodyPre (c : Dev nD) (t : Fin cfg0.N) : sProp (MT nD τ sig Unit (Elt Ideal) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d)))

/-- What the body ends with. -/
def bodyPost (c : Dev nD) (t : Fin cfg0.N) : sProp (MT nD τ sig Unit (Elt Ideal) ℕ (UR sig nD τ) ℕ) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t))

set_option maxHeartbeats 2000000 in
/-- The body runs from what it is given to what it must leave. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12]
  rw [show (dats m 0 c).Φ t.castSucc = Pipeline.ΦA spec0 c from rfl, PhiA0_eq]
  iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (bodyRun c _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  iintro ⟨H0, H1, H2, H3, H4, H5, H6, H7, H8, H9, H10, H11, H12, HS0, HS1, HS2, HS3, HS4, HS5, HS6⟩
  isplitl [HS0 HS1 HS2 HS3 HS4 HS5 HS6 Hg]
  · isplitl [HS0 HS1 HS2 HS3 HS4 HS5 HS6]
    · isplitl [HS0]
      · iexact HS0
      isplitl [HS1]
      · iexact HS1
      isplitl [HS2]
      · iexact HS2
      isplitl [HS3]
      · iexact HS3
      isplitl [HS4]
      · iexact HS4
      isplitl [HS5]
      · iexact HS5
      iexact HS6
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The body called at a point is the kernel at the point's buffers. -/
theorem defs₀_row (t : Fin cfg0.N) :
    defs₀ (F := Ideal) .tc cfg0.body (cfg0.bodyArgs t (cfg0.slots t)) = bodyAt0 t := by
  unfold defs₀; rw [Defs.onTc_tc]

/-- The body meets its obligation at every point. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The whole run: every array of the launch ends at what the body leaves, the rest as the lines after it do. -/
theorem run_main : θ_run defs (onTc (τ := τ) (main (F := Ideal))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- No run changes an argument. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) ((θ_run defs _ _).mono (fun _ h => h.1) (run_main m ρ))

/-- The frame: every argument ends as it started and every semaphore at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main m ρ))

end Cert.KernelIdeal.Launched

end
-- ==== Proof.Result.lean ====
module
public import proofs.«01_k».proof.Proof.Launch
public import Idealize.ShloMosaic.Lib.Pointwise
public import Idealize.ShloMosaic.Lib.StableHlo.ReadAt
public import Idealize.ShloMosaic.Lib.Pipeline.ValueKit

/-!
What a run of the kernel leaves in its result: the first 36 entries of the block the body writes.
-/

@[expose] public section

set_option maxRecDepth 16384

noncomputable section

namespace Cert.KernelIdeal.Launched

open Cert.KernelIdeal.Gen
open Idealize.ShloMosaic Idealize.ShloMosaic.TcCoe Idealize.ShloMosaic.Tactic
open Idealize.SL Idealize.SL.Sem
open Idealize.ShloMosaic.StableHlo

variable (m : (ℓ : Loc nD τ sig) → Buf (Elt Ideal) ℓ) (ρ : Dev nD → PrngReg)

/-- The launch's one grid point. -/
def point : Fin cfg0.N := ⟨0, by decide⟩

/-- The array the body's block is written back to. -/
theorem array_eq (c : Dev nD) : (dats m 0 c).arrAt 12 cfg0.N = fun j : S1x128.Idx => outBlk m c point j := by
  refine (dats m 0 c).arrAt_eq_of_after_last 12 point (by decide +kernel) _ fun j => ?_
  blk_simp
  rw [after0_12]

/-- The kernel's result: entry `l` is entry `l` of the block's one row. -/
def result (c : Dev nD) : FVec Ideal S36 .f32 := fun i => outBlk m c point (ix2 (0 : Fin 1) (⟨(i 0).val, Nat.lt_of_lt_of_le (i 0).isLt (by decide)⟩ : Fin 128))

/-- The result buffer after the lines behind the launch. -/
theorem tail_eq (c : Dev nD) : Pipeline.afterTail₀ cfgs (dats m) 0 (V0 m) [hostOps1] c main_v24 = result m c := by
  unfold Pipeline.afterTail₀
  refine funext fun i => ?_
  obtain ⟨l, rfl⟩ : ∃ l : Fin 36, i = ix1 l := ⟨i 0, by funext a; match a with | ⟨0, _⟩ => rfl⟩
  after_reads_at
  refine (congrFun (Pipeline.withArrays_arr spec0 (by decide) c (V0 m c) (fun w => (dats m 0 c).arrAt w cfg0.N) 12) _).trans ?_
  rw [array_eq]
  rfl

/-- Every run ends with the result in the result buffer. -/
theorem run_result : θ_run defs (onTc (τ := τ) (main (F := Ideal))) ⟨m, fun _ => 0, ρ⟩ (fun r => ∀ c : Dev nD,
      r.2.mem ((c.tc : Thread nD τ).loc main_v24) = result m c) :=
  (θ_run defs _ _).mono (fun _ h c => ((h.1 c).2 main_v24 (Pipeline.mem_restRefs_of main_v24 (by decide) (by decide))).trans (tail_eq m c))
    (run_main m ρ)

/-- Every run ends with the result in the result buffer and every argument as it started. -/
theorem run : θ_run defs (onTc (τ := τ) (main (F := Ideal))) ⟨m, fun _ => 0, ρ⟩ (fun r => ∀ c : Dev nD,
      r.2.mem ((c.tc : Thread nD τ).loc main_v24) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨h.1 c, h.2 c⟩) (θ_run_and (run_result m ρ) (unchanged m ρ))

end Cert.KernelIdeal.Launched

end
-- ==== Proof.Blocks.lean ====
module
public import proofs.«01_k».proof.Proof.Launch
public import Idealize.ShloMosaic.Lib.Pointwise
public import Idealize.ShloMosaic.Lib.StableHlo.ReadAt
public import Idealize.ShloMosaic.Lib.Pipeline.ValueKit
public import Idealize.ShloMosaic.Lib.Routing.OpsSet
public import Idealize.ShloMosaic.Lib.Routing.OpsPair

/-!
What the kernel's twelve blocks hold, in terms of the ten arguments: each window is one whole array, which the host lines
before the launch make from an argument by a transpose, a slice, a reshape or a padding with zero rows.
-/

@[expose] public section

set_option maxRecDepth 16384

noncomputable section

namespace Cert.KernelIdeal.Launched

open Cert.KernelIdeal.Gen
open Idealize.ShloMosaic Idealize.ShloMosaic.TcCoe Idealize.ShloMosaic.Tactic
open Idealize.SL.Sem
open Idealize.ShloMosaic.StableHlo

variable (m : (ℓ : Loc nD τ sig) → Buf (Elt Ideal) ℓ)

/-- The launch has one grid point. -/
theorem point_eq (t : Fin cfg0.N) : t = ⟨0, by decide⟩ :=
  Fin.ext (Nat.lt_one_iff.1 (show t.val < 1 from t.isLt))

/-- Window 0 is the whole array. -/
theorem emb0 (t : Fin cfg0.N) (j : S100x78.Idx) : (win0_0.blk t).view.emb j = j := by
  obtain rfl := point_eq t
  funext a
  match a with
  | ⟨0, _⟩ => exact Fin.ext (by simp; rfl)
  | ⟨1, _⟩ => exact Fin.ext (by simp; rfl)

/-- Window 1 is the whole array. -/
theorem emb1 (t : Fin cfg0.N) (j : S1x286.Idx) : (win0_1.blk t).view.emb j = j := by
  obtain rfl := point_eq t
  funext a
  match a with
  | ⟨0, _⟩ => exact Fin.ext (by simp; rfl)
  | ⟨1, _⟩ => exact Fin.ext (by simp; rfl)

/-- Window 2 is the whole array. -/
theorem emb2 (t : Fin cfg0.N) (j : S1x286.Idx) : (win0_2.blk t).view.emb j = j := by
  obtain rfl := point_eq t
  funext a
  match a with
  | ⟨0, _⟩ => exact Fin.ext (by simp; rfl)
  | ⟨1, _⟩ => exact Fin.ext (by simp; rfl)

/-- Window 3 is the whole array. -/
theorem emb3 (t : Fin cfg0.N) (j : S286x1.Idx) : (win0_3.blk t).view.emb j = j := by
  obtain rfl := point_eq t
  funext a
  match a with
  | ⟨0, _⟩ => exact Fin.ext (by simp; rfl)
  | ⟨1, _⟩ => exact Fin.ext (by simp; rfl)

/-- Window 4 is the whole array. -/
theorem emb4 (t : Fin cfg0.N) (j : S8x64.Idx) : (win0_4.blk t).view.emb j = j := by
  obtain rfl := point_eq t
  funext a
  match a with
  | ⟨0, _⟩ => exact Fin.ext (by simp; rfl)
  | ⟨1, _⟩ => exact Fin.ext (by simp; rfl)

/-- Window 5 is the whole array. -/
theorem emb5 (t : Fin cfg0.N) (j : S1x64.Idx) : (win0_5.blk t).view.emb j = j := by
  obtain rfl := point_eq t
  funext a
  match a with
  | ⟨0, _⟩ => exact Fin.ext (by simp; rfl)
  | ⟨1, _⟩ => exact Fin.ext (by simp; rfl)

/-- Window 6 is the whole array. -/
theorem emb6 (t : Fin cfg0.N) (j : S128x2496.Idx) : (win0_6.blk t).view.emb j = j := by
  obtain rfl := point_eq t
  funext a
  match a with
  | ⟨0, _⟩ => exact Fin.ext (by simp; rfl)
  | ⟨1, _⟩ => exact Fin.ext (by simp; rfl)

/-- Window 7 is the whole array. -/
theorem emb7 (t : Fin cfg0.N) (j : S1x128.Idx) : (win0_7.blk t).view.emb j = j := by
  obtain rfl := point_eq t
  funext a
  match a with
  | ⟨0, _⟩ => exact Fin.ext (by simp; rfl)
  | ⟨1, _⟩ => exact Fin.ext (by simp; rfl)

/-- Window 8 is the whole array. -/
theorem emb8 (t : Fin cfg0.N) (j : S256x128.Idx) : (win0_8.blk t).view.emb j = j := by
  obtain rfl := point_eq t
  funext a
  match a with
  | ⟨0, _⟩ => exact Fin.ext (by simp; rfl)
  | ⟨1, _⟩ => exact Fin.ext (by simp; rfl)

/-- Window 9 is the whole array. -/
theorem emb9 (t : Fin cfg0.N) (j : S1x256.Idx) : (win0_9.blk t).view.emb j = j := by
  obtain rfl := point_eq t
  funext a
  match a with
  | ⟨0, _⟩ => exact Fin.ext (by simp; rfl)
  | ⟨1, _⟩ => exact Fin.ext (by simp; rfl)

/-- Window 10 is the whole array. -/
theorem emb10 (t : Fin cfg0.N) (j : S128x256.Idx) : (win0_10.blk t).view.emb j = j := by
  obtain rfl := point_eq t
  funext a
  match a with
  | ⟨0, _⟩ => exact Fin.ext (by simp; rfl)
  | ⟨1, _⟩ => exact Fin.ext (by simp; rfl)

/-- Window 11 is the whole array. -/
theorem emb11 (t : Fin cfg0.N) (j : S1x128.Idx) : (win0_11.blk t).view.emb j = j := by
  obtain rfl := point_eq t
  funext a
  match a with
  | ⟨0, _⟩ => exact Fin.ext (by simp; rfl)
  | ⟨1, _⟩ => exact Fin.ext (by simp; rfl)

/-- A row of the first block is one time step: node `l / 2`, feature `l % 2`. -/
theorem blk0 (c : Dev nD) (t : Fin cfg0.N) (r : Fin 100) (l : Fin 78) :
    iblk m c 0 t (ix2 r l) = m ((c : Thread nD τ).loc main_arg0) (ix3 (⟨l.val / 2, by omega⟩ : Fin 39) (⟨l.val % 2, by omega⟩ : Fin 2) r) := by
  refine (congrArg (V m c main_v1) (emb0 t (ix2 r l))).trans ?_
  unfold V
  after_reads_at

/-- The second block is the edges' sources. -/
theorem blk1 (c : Dev nD) (t : Fin cfg0.N) (l : Fin 286) :
    iblk m c 1 t (ix2 0 l) = m ((c : Thread nD τ).loc main_arg1) (ix2 0 l) := by
  refine (congrArg (V m c main_v4) (emb1 t (ix2 0 l))).trans ?_
  unfold V
  after_reads_at

/-- The third block is the edges' targets, as a row. -/
theorem blk2 (c : Dev nD) (t : Fin cfg0.N) (l : Fin 286) :
    iblk m c 2 t (ix2 0 l) = m ((c : Thread nD τ).loc main_arg1) (ix2 1 l) := by
  refine (congrArg (V m c main_v7) (emb2 t (ix2 0 l))).trans ?_
  unfold V
  after_reads_at

/-- The fourth block is the edges' targets, as a column. -/
theorem blk3 (c : Dev nD) (t : Fin cfg0.N) (l : Fin 286) :
    iblk m c 3 t (ix2 l 0) = m ((c : Thread nD τ).loc main_arg1) (ix2 1 l) := by
  refine (congrArg (V m c main_v10) (emb3 t (ix2 l 0))).trans ?_
  unfold V
  after_reads_at

/-- The fifth block is the convolution's weights. -/
theorem blk4 (c : Dev nD) (t : Fin cfg0.N) (r : Fin 8) (l : Fin 64) :
    iblk m c 4 t (ix2 r l) = m ((c : Thread nD τ).loc main_arg2) (ix2 r l) := by
  refine (congrArg (V m c main_arg2) (emb4 t (ix2 r l))).trans ?_
  unfold V
  after_reads_at

/-- The sixth block is the convolution's bias. -/
theorem blk5 (c : Dev nD) (t : Fin cfg0.N) (l : Fin 64) :
    iblk m c 5 t (ix2 0 l) = m ((c : Thread nD τ).loc main_arg3) (ix1 l) := by
  refine (congrArg (V m c main_v11) (emb5 t (ix2 0 l))).trans ?_
  unfold V
  after_reads_at

/-- The seventh block is the first dense layer's weights. -/
theorem blk6 (c : Dev nD) (t : Fin cfg0.N) (r : Fin 128) (l : Fin 2496) :
    iblk m c 6 t (ix2 r l) = m ((c : Thread nD τ).loc main_arg4) (ix2 r l) := by
  refine (congrArg (V m c main_arg4) (emb6 t (ix2 r l))).trans ?_
  unfold V
  after_reads_at

/-- The eighth block is the first dense layer's bias. -/
theorem blk7 (c : Dev nD) (t : Fin cfg0.N) (l : Fin 128) :
    iblk m c 7 t (ix2 0 l) = m ((c : Thread nD τ).loc main_arg5) (ix1 l) := by
  refine (congrArg (V m c main_v12) (emb7 t (ix2 0 l))).trans ?_
  unfold V
  after_reads_at

/-- The ninth block is the second dense layer's weights. -/
theorem blk8 (c : Dev nD) (t : Fin cfg0.N) (r : Fin 256) (l : Fin 128) :
    iblk m c 8 t (ix2 r l) = m ((c : Thread nD τ).loc main_arg6) (ix2 r l) := by
  refine (congrArg (V m c main_arg6) (emb8 t (ix2 r l))).trans ?_
  unfold V
  after_reads_at

/-- The tenth block is the second dense layer's bias. -/
theorem blk9 (c : Dev nD) (t : Fin cfg0.N) (l : Fin 256) :
    iblk m c 9 t (ix2 0 l) = m ((c : Thread nD τ).loc main_arg7) (ix1 l) := by
  refine (congrArg (V m c main_v13) (emb9 t (ix2 0 l))).trans ?_
  unfold V
  after_reads_at

end Cert.KernelIdeal.Launched

end
-- ==== Proof.Padded.lean ====
module
public import proofs.«01_k».proof.Proof.Blocks

/-!
The output layer's weights and biases are padded from 36 rows to 128 before the launch: the rows below 36 are the arguments' own.
-/

@[expose] public section

set_option maxRecDepth 16384

noncomputable section

namespace Cert.KernelIdeal.Launched

open Cert.KernelIdeal.Gen
open Idealize.ShloMosaic Idealize.ShloMosaic.TcCoe Idealize.ShloMosaic.Tactic
open Idealize.SL.Sem
open Idealize.ShloMosaic.StableHlo

variable (m : (ℓ : Loc nD τ sig) → Buf (Elt Ideal) ℓ)

/-- A row of the update lands in the row of its own number. -/
theorem lands_rows (idx : IVec S1 32) (h : ∀ i, idx i = 0#32) (a : Fin 36) (b : Fin 256) (l : Fin 128) (k : Fin 256) :
    scatter_S128x256_S1_S36x256_01_n_0_0.resultIdx? (ix2 a b) idx = some (ix2 l k) ↔ a.val = l.val ∧ b.val = k.val := by
  have s0 : scatter_S128x256_S1_S36x256_01_n_0_0.start (ix2 a b) idx 0 = 0 := by
    unfold ScatterDims.start
    rw [dif_pos (by decide), h]; rfl
  have s1 : scatter_S128x256_S1_S36x256_01_n_0_0.start (ix2 a b) idx 1 = 0 := by
    unfold ScatterDims.start
    rw [dif_neg (by decide)]
  have w0 : scatter_S128x256_S1_S36x256_01_n_0_0.window (ix2 a b) 0 = a.val := rfl
  have w1 : scatter_S128x256_S1_S36x256_01_n_0_0.window (ix2 a b) 1 = b.val := rfl
  refine Iff.trans (Routing.resultIdx?_ix2 (R := 128) (C := 256) _ (ix2 a b) idx l k) ?_
  rw [s0, s1, w0, w1]
  omega

/-- An entry of the update lands at its own number. -/
theorem lands_row (idx : IVec S2 32) (h : ∀ i, idx i = 0#32) (a : Fin 36) (l : Fin 128) :
    scatter_S1x128_S2_S36_0_0_01_0.resultIdx? (ix1 a) idx = some (ix2 (0 : Fin 1) l) ↔ a.val = l.val := by
  have s0 : scatter_S1x128_S2_S36_0_0_01_0.start (ix1 a) idx 0 = 0 := by
    unfold ScatterDims.start
    rw [dif_pos (by decide), h]; rfl
  have s1 : scatter_S1x128_S2_S36_0_0_01_0.start (ix1 a) idx 1 = 0 := by
    unfold ScatterDims.start
    rw [dif_pos (by decide), h]; rfl
  have w0 : scatter_S1x128_S2_S36_0_0_01_0.window (ix1 a) 0 = 0 := rfl
  have w1 : scatter_S1x128_S2_S36_0_0_01_0.window (ix1 a) 1 = a.val := rfl
  refine Iff.trans (Routing.resultIdx?_ix2 (R := 1) (C := 128) _ (ix1 a) idx 0 l) ?_
  rw [s0, s1, w0, w1]
  simp

/-- The padded output weights: row `l` below 36 is the weights' own. -/
theorem blk10 (c : Dev nD) (t : Fin cfg0.N) (l : Fin 36) (k : Fin 256) :
    iblk m c 10 t (ix2 ⟨l.val, by omega⟩ k) = m ((c : Thread nD τ).loc main_arg8) (ix2 l k) := by
  refine (congrArg (V m c main_v16) (emb10 t (ix2 ⟨l.val, by omega⟩ k))).trans ?_
  unfold V
  after_reads_at
  refine Routing.scatter_set_hit _ _ _ _ _ _ (fun k' hk' => ?_) (ix2 l k) ?_
  · obtain ⟨a, b, rfl⟩ : ∃ a b, k' = ix2 a b := ⟨k' 0, k' 1, by funext x; match x with | ⟨0, _⟩ => rfl | ⟨1, _⟩ => rfl⟩
    obtain ⟨e1, e2⟩ := (lands_rows _ (fun _ => rfl) a b ⟨l.val, by omega⟩ k).1 hk'
    obtain rfl : a = l := Fin.ext e1
    obtain rfl : b = k := Fin.ext e2
    rfl
  · exact (lands_rows _ (fun _ => rfl) l k ⟨l.val, by omega⟩ k).2 ⟨rfl, rfl⟩

/-- The padded output biases: entry `l` below 36 is the biases' own. -/
theorem blk11 (c : Dev nD) (t : Fin cfg0.N) (l : Fin 36) :
    iblk m c 11 t (ix2 0 ⟨l.val, by omega⟩) = m ((c : Thread nD τ).loc main_arg9) (ix1 l) := by
  refine (congrArg (V m c main_v21) (emb11 t (ix2 0 ⟨l.val, by omega⟩))).trans ?_
  unfold V
  after_reads_at
  have z : ∀ i, (concatenate S2 0
        [⟨S1, upto [hostOps0].flatten (fun b => m (c, b)) 25 (Proc.tc.devRef main_v18)⟩,
          ⟨S1, upto [hostOps0].flatten (fun b => m (c, b)) 25 (Proc.tc.devRef main_v19)⟩]
        concatenates_S1_S1_S2_d0) i = 0#32 := by
    have h18 : (upto [hostOps0].flatten (fun b => m (c, b)) 25 (Proc.tc.devRef main_v18)) = fun _ => 0#32 := by
      after_reads_simp
      rfl
    have h19 : (upto [hostOps0].flatten (fun b => m (c, b)) 25 (Proc.tc.devRef main_v19)) = fun _ => 0#32 := by
      after_reads_simp
      rfl
    rw [h18, h19]
    refine fun i => concatenate_forall (P := fun x => x = 0#32) _ _ _ _ (fun p hp j => ?_) i
    simp only [List.mem_cons, List.not_mem_nil, or_false] at hp
    rcases hp with rfl | rfl <;> rfl
  refine Routing.scatter_set_hit _ _ _ _ _ _ (fun k' hk' => ?_) (ix1 l) ?_
  · obtain ⟨a, rfl⟩ : ∃ a, k' = ix1 a := ⟨k' 0, by funext x; match x with | ⟨0, _⟩ => rfl⟩
    have e1 := (lands_row _ z a ⟨l.val, by omega⟩).1 hk'
    obtain rfl : a = l := Fin.ext e1
    rfl
  · exact (lands_row _ z l ⟨l.val, by omega⟩).2 rfl

end Cert.KernelIdeal.Launched
end
-- ==== Proof.Equal.lean ====
module
public import proofs.«01_k».proof.Proof.KerNet
public import proofs.«01_k».proof.Proof.RefNet
public import proofs.«01_k».proof.Proof.Result
public import proofs.«01_k».proof.Proof.Padded
public import proofs.«01_k».proof.Proof.Gen.ReferenceIdeal.StepRun

/-!
Both programs compute the network of their arguments: the kernel's result and the reference's, entry by entry, are its means.
-/

@[expose] public section

set_option maxRecDepth 16384

noncomputable section

namespace Cert.Equal

open Idealize.ShloMosaic Idealize.ShloMosaic.TcCoe
open Cert.KernelIdeal.Network

section Given

open Cert.KernelIdeal (S39x2x100 S8x64 S64 S128x2496 S128 S256x128 S256 S36x256 S36)

/-- The network given by the arguments, the edges' ends as nodes. -/
def net (src dst : Fin 286 → Fin 39) (a0 : FVec Ideal S39x2x100 .f32) (a2 : FVec Ideal S8x64 .f32) (a3 : FVec Ideal S64 .f32)
    (a4 : FVec Ideal S128x2496 .f32) (a5 : FVec Ideal S128 .f32) (a6 : FVec Ideal S256x128 .f32) (a7 : FVec Ideal S256 .f32)
    (a8 : FVec Ideal S36x256 .f32) (a9 : FVec Ideal S36 .f32) : Net where
  src := src
  dst := dst
  x n c t := a0 (ix3 n c t)
  wc p ch := a2 (ix2 p ch)
  bc ch := a3 (ix1 ch)
  w1 l k := a4 (ix2 l k)
  b1 l := a5 (ix1 l)
  w2 l k := a6 (ix2 l k)
  b2 l := a7 (ix1 l)
  w3 l k := a8 (ix2 l k)
  b3 l := a9 (ix1 l)

end Given

section Kernel

open Cert.KernelIdeal Cert.KernelIdeal.Launched

variable (m : (ℓ : Loc nD τ sig) → Buf (Elt Ideal) ℓ) (c : Dev nD) (src dst : Fin 286 → Fin 39)

/-- The kernel's result is the network's means. -/
theorem kernel_mean (hs : ∀ e, m ((c.tc : Thread nD τ).loc main_arg1) (ix2 (0 : Fin 2) e) = BitVec.ofNat 32 (src e).val)
    (hd : ∀ e, m ((c.tc : Thread nD τ).loc main_arg1) (ix2 (1 : Fin 2) e) = BitVec.ofNat 32 (dst e).val) (l : Fin 36) :
    result m c (ix1 l) = (net src dst (m ((c.tc : Thread nD τ).loc main_arg0)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8))
      (m ((c.tc : Thread nD τ).loc main_arg9))).mean l := by
  refine Block.out_at _ _ _ _ _ _ _ _ _ _ _ _ _ ?_ ?_ ?_ ?_ ?_ ?_ ?_ ?_ ?_ ?_ l ?_ ?_
  · intro t n ch
    refine (blk0 m c point t _).trans ?_
    have e1 : (⟨(n.val * 2 + ch.val) / 2, by omega⟩ : Fin 39) = n := Fin.ext (by show (n.val * 2 + ch.val) / 2 = n.val; omega)
    have e2 : (⟨(n.val * 2 + ch.val) % 2, by omega⟩ : Fin 2) = ch := Fin.ext (by show (n.val * 2 + ch.val) % 2 = ch.val; omega)
    exact congrArg₂ (fun a b => m ((c.tc : Thread nD τ).loc main_arg0) (ix3 a b t)) e1 e2
  · exact fun e => (blk1 m c point e).trans (hs e)
  · exact fun e => (blk2 m c point e).trans (hd e)
  · exact fun e => (blk3 m c point e).trans (hd e)
  · exact fun p ch => blk4 m c point p ch
  · exact fun ch => blk5 m c point ch
  · exact fun l k => blk6 m c point l k
  · exact fun l => blk7 m c point l
  · exact fun l k => blk8 m c point l k
  · exact fun l => blk9 m c point l
  · exact fun k => blk10 m c point l k
  · exact blk11 m c point l

end Kernel

section Reference

open Cert.ReferenceIdeal Cert.ReferenceIdeal.Step Cert.ReferenceIdeal.Read

/-- The loop's first state holds neurons at rest. -/
theorem first_holds (a : Net) (a0 a1 a2 a3 a4 a5 a6 a7 a8 a9) : Holds a 0 (init (F := Ideal) a0 a1 a2 a3 a4 a5 a6 a7 a8 a9) where
  m0 n ch := by show K_main_v0 (F := Ideal) (ix2 n ch) = 0; pointwise [K_main_v0, K_main_cst]
  s0 n ch := by show K_main_v1 (F := Ideal) (ix2 n ch) = 0; pointwise [K_main_v1, K_main_cst_0]
  m1 l := by show K_main_v2 (F := Ideal) (ix1 l) = 0; pointwise [K_main_v2, K_main_cst_1]
  s1 l := by show K_main_v3 (F := Ideal) (ix1 l) = 0; pointwise [K_main_v3, K_main_cst_2]
  m2 l := by show K_main_v4 (F := Ideal) (ix1 l) = 0; pointwise [K_main_v4, K_main_cst_3]
  s2 l := by show K_main_v5 (F := Ideal) (ix1 l) = 0; pointwise [K_main_v5, K_main_cst_4]
  m3 l := by show K_main_v6 (F := Ideal) (ix1 l) = 0; pointwise [K_main_v6, K_main_cst_5]
  s3 l := by show K_main_v7 (F := Ideal) (ix1 l) = 0; pointwise [K_main_v7, K_main_cst_6]
  sum l := by show K_main_v8 (F := Ideal) (ix1 l) = 0; pointwise [K_main_v8, K_main_cst_7]

/-- The reference's result is the network's means. -/
theorem reference_mean (src dst : Fin 286 → Fin 39) (a0 : FVec Ideal S39x2x100 .f32) (a1 : IVec S2x286 32) (a2 : FVec Ideal S8x64 .f32)
    (a3 : FVec Ideal S64 .f32) (a4 : FVec Ideal S128x2496 .f32) (a5 : FVec Ideal S128 .f32) (a6 : FVec Ideal S256x128 .f32)
    (a7 : FVec Ideal S256 .f32) (a8 : FVec Ideal S36x256 .f32) (a9 : FVec Ideal S36 .f32)
    (hs : ∀ e, a1 (ix2 (0 : Fin 2) e) = BitVec.ofNat 32 (src e).val) (hd : ∀ e, a1 (ix2 (1 : Fin 2) e) = BitVec.ofNat 32 (dst e).val)
    (l : Fin 36) : R_main_v11 (states (init a0 a1 a2 a3 a4 a5 a6 a7 a8 a9) 100) (ix1 l)
      = (net src dst a0 a2 a3 a4 a5 a6 a7 a8 a9).mean l :=
  Read.mean_at ⟨hs, hd, fun _ _ _ => rfl, fun _ _ => rfl, fun _ => rfl, fun _ _ => rfl, fun _ => rfl, fun _ _ => rfl, fun _ => rfl,
    fun _ _ => rfl, fun _ => rfl⟩ (first_holds _ _ _ _ _ _ _ _ _ _ _) l

end Reference

end Cert.Equal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.WordFrame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame.Runs
public import proofs.«01_k».proof.Proof.Gen.ReferenceIdeal
public import proofs.«01_k».proof.Proof.Gen.ReferenceIdeal.Run
public import proofs.«01_k».proof.Proof.Gen.ReferenceIdeal.StepRun
public import proofs.«01_k».proof.Proof.Gen.Pre_in_range
public import proofs.«01_k».proof.Proof.Range
public import proofs.«01_k».proof.Proof.Equal
public import Idealize.ShloMosaic.Adequacy
public import Idealize.ShloMosaic.Init

/-!
The claims, assembled: every program ends with its arguments unchanged, the kernel's one constant is named the rational it stands
for, and the kernel and the reference end with equal results.
-/

@[expose] public section

noncomputable section

namespace Cert.Proof

open Idealize.ShloMosaic Idealize.ShloMosaic.TcCoe Idealize.SL.Sem

/-- Every run of the reference ends with its arguments unchanged. -/
theorem reference_frame : Cert.quiescent_ReferenceIdeal := fun m ρ _ => (θ_run (Cert.ReferenceIdeal.defs (F := Ideal)) _ _).mono
  (fun r h => ⟨fun c => (h c).2, Idealize.ShloMosaic.sem_eq_zero_of_no_sems (by decide) r.2⟩)
  (Cert.ReferenceIdeal.Value.run (F := Ideal) m ρ)

/-- The kernel and the reference end with equal results where every edge's end is a node. -/
theorem equal : Cert.algebraic_KernelIdeal_ReferenceIdeal_pre_in_range := by
  intro m ρ m' ρ' hpre hagree
  refine ⟨fun c => Cert.KernelIdeal.Launched.result m c, Cert.KernelIdeal.Launched.run m ρ, ?_⟩
  have hrun := Cert.ReferenceIdeal.StepRun.run_iter (F := Ideal) m' ρ'
    (fun c => Cert.ReferenceIdeal.Read.states (Cert.ReferenceIdeal.StepRun.initState m' c)) (fun c => rfl) (fun c n => rfl)
  refine (θ_run _ _ _).mono (fun _ h c => ⟨(h c).1.trans ?_, (h c).2⟩) hrun
  have ends := Cert.Pre_in_range.ends _ _ _ _ _ _ _ _ _ _ (fun q => q.elim0) (congrFun (hpre c) _)
  choose src hs using ends 0
  choose dst hd using ends 1
  obtain ⟨e0, e1, e2, e3, e4, e5, e6, e7, e8, e9⟩ := hagree c
  funext i
  obtain ⟨l, rfl⟩ : ∃ l : Fin 36, i = ix1 l := ⟨i 0, by funext a; match a with | ⟨0, _⟩ => rfl⟩
  refine (Cert.Equal.reference_mean src dst _ _ _ _ _ _ _ _ _ _ ?_ ?_ l).trans ?_
  · exact fun e => (congrFun e1 _).trans (hs e)
  · exact fun e => (congrFun e1 _).trans (hd e)
  · rw [e0, e2, e3, e4, e5, e6, e7, e8, e9]
    exact (Cert.Equal.kernel_mean m c src dst hs hd l).symm

/-- Everything claimed. -/
theorem claim : Cert.Claim := ⟨Cert.Kernel.Gen.facts, Cert.KernelIdeal.Gen.facts, Cert.ReferenceIdeal.Gen.facts, Cert.Pre_in_range.Gen.facts,
  fun m ρ _ => Cert.Kernel.Launched.frame m ρ, fun m ρ _ => Cert.KernelIdeal.Launched.frame m ρ,
  fun m ρ _ => Cert.KernelIdeal.Launched.frame m ρ, reference_frame, fun m ρ _ => reference_frame m ρ trivial,
  IdealRules.named_const.statement Cert.KernelIdeal.κ "inv_t" .f32 0x3C23D70A#32 ((100⁻¹ : ℝ) : EReal) rfl, equal⟩

end Cert.Proof

end
